-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x2048 : Shape := ⟨3, ![1, 2048, 2048]⟩
abbrev S8x2048 : Shape := ⟨2, ![8, 2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S1x2048x2048 .f32) (main_arg1 : FVec F S8x2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  main_v8
-- ==== Kernel.lean ====
abbrev S1x2048x2048 : Shape := ⟨3, ![1, 2048, 2048]⟩
abbrev S8x2048 : Shape := ⟨2, ![8, 2048]⟩
abbrev S2048x2048 : Shape := ⟨2, ![2048, 2048]⟩
abbrev S8x2x256 : Shape := ⟨3, ![8, 2, 256]⟩
abbrev S256x2048 : Shape := ⟨2, ![256, 2048]⟩
abbrev S1x2x256 : Shape := ⟨3, ![1, 2, 256]⟩
abbrev S8x256 : Shape := ⟨2, ![8, 256]⟩
abbrev S256 : Shape := ⟨1, ![256]⟩
abbrev S1x256 : Shape := ⟨2, ![1, 256]⟩
abbrev S2x256 : Shape := ⟨2, ![2, 256]⟩
abbrev S2048x8 : Shape := ⟨2, ![2048, 8]⟩
abbrev S8x1 : Shape := ⟨2, ![8, 1]⟩
abbrev S256x256 : Shape := ⟨2, ![256, 256]⟩
abbrev S1x1x256 : Shape := ⟨3, ![1, 1, 256]⟩
abbrev S256x8 : Shape := ⟨2, ![256, 8]⟩
abbrev S2048x8x640 : Shape := ⟨3, ![2048, 8, 640]⟩
abbrev S256x8x640 : Shape := ⟨3, ![256, 8, 640]⟩
abbrev S256x8x1 : Shape := ⟨3, ![256, 8, 1]⟩
abbrev S_ : Shape := ⟨0, ![]⟩
abbrev S8 : Shape := ⟨1, ![8]⟩

abbrev nBuf : Space → Nat
  | .hbm => 15
  | .vmem => 20
  | .smem => 0
  | _ => 0

abbrev bufTy : (tb : Table) → Fin (tcTables nBuf tb) → BufTy
  | .hbm, ⟨0, _⟩ => ⟨S1x2048x2048, .f32⟩
  | .hbm, ⟨1, _⟩ => ⟨S8x2048, .f32⟩
  | .hbm, ⟨2, _⟩ => ⟨S2048x2048, .f32⟩
  | .hbm, ⟨3, _⟩ => ⟨S8x2x256, .f32⟩
  | .hbm, ⟨4, _⟩ => ⟨S8x2x256, .i32⟩
  | .hbm, ⟨5, _⟩ => ⟨S2048x8, .i32⟩
  | .hbm, ⟨6, _⟩ => ⟨S2048x8, .f32⟩
  | .hbm, ⟨7, _⟩ => ⟨S8x1, .i32⟩
  | .hbm, ⟨8, _⟩ => ⟨S2048x8x640, .f32⟩
  | .hbm, ⟨9, _⟩ => ⟨S2048x8x640, .i32⟩
  | .hbm, ⟨10, _⟩ => ⟨S_, .i32⟩
  | .hbm, ⟨11, _⟩ => ⟨S2048x8x640, .i32⟩
  | .hbm, ⟨12, _⟩ => ⟨S2048x8x640, .i1⟩
  | .hbm, ⟨13, _⟩ => ⟨S2048x8x640, .i1⟩
  | .hbm, ⟨14, _⟩ => ⟨S8, .i32⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S1x2x256, .f32⟩
  | .local _ .vmem, ⟨4, _⟩ => ⟨S1x2x256, .f32⟩
  | .local _ .vmem, ⟨5, _⟩ => ⟨S1x2x256, .i32⟩
  | .local _ .vmem, ⟨6, _⟩ => ⟨S1x2x256, .i32⟩
  | .local _ .vmem, ⟨7, _⟩ => ⟨S8x2x256, .f32⟩
  | .local _ .vmem, ⟨8, _⟩ => ⟨S8x2x256, .i32⟩
  | .local _ .vmem, ⟨9, _⟩ => ⟨S2048x8, .i32⟩
  | .local _ .vmem, ⟨10, _⟩ => ⟨S2048x8, .f32⟩
  | .local _ .vmem, ⟨11, _⟩ => ⟨S8x1, .i32⟩
  | .local _ .vmem, ⟨12, _⟩ => ⟨S256x8, .i32⟩
  | .local _ .vmem, ⟨13, _⟩ => ⟨S256x8, .i32⟩
  | .local _ .vmem, ⟨14, _⟩ => ⟨S256x8, .f32⟩
  | .local _ .vmem, ⟨15, _⟩ => ⟨S256x8, .f32⟩
  | .local _ .vmem, ⟨16, _⟩ => ⟨S256x8x640, .f32⟩
  | .local _ .vmem, ⟨17, _⟩ => ⟨S256x8x640, .f32⟩
  | .local _ .vmem, ⟨18, _⟩ => ⟨S256x8x640, .i32⟩
  | .local _ .vmem, ⟨19, _⟩ => ⟨S256x8x640, .i32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3_0 : Ref sig .tc := ⟨.hbm, 8, rfl⟩
abbrev main_v3_1 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S8x2x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x2x256 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2048x8 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x8 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x8x640 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x8x640 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S1x2048x2048 : Shape := ⟨3, ![1, 2048, 2048]⟩
abbrev S8x2048 : Shape := ⟨2, ![8, 2048]⟩
abbrev S2048x8 : Shape := ⟨2, ![2048, 8]⟩
abbrev S1x2048x8 : Shape := ⟨3, ![1, 2048, 8]⟩
abbrev S1x2048x2 : Shape := ⟨3, ![1, 2048, 2]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S2048x2x2 : Shape := ⟨3, ![2048, 2, 2]⟩
abbrev S1x1x8 : Shape := ⟨3, ![1, 1, 8]⟩
abbrev S2048x2x8 : Shape := ⟨3, ![2048, 2, 8]⟩
abbrev S2x2048x8 : Shape := ⟨3, ![2, 2048, 8]⟩
abbrev S4096x8 : Shape := ⟨2, ![4096, 8]⟩
abbrev S8 : Shape := ⟨1, ![8]⟩
abbrev S2x2048 : Shape := ⟨2, ![2, 2048]⟩
abbrev S2x2048x1 : Shape := ⟨3, ![2, 2048, 1]⟩
abbrev S1x1x640 : Shape := ⟨3, ![1, 1, 640]⟩
abbrev S2x2048x640 : Shape := ⟨3, ![2, 2048, 640]⟩
abbrev S2x2048x8x1 : Shape := ⟨4, ![2, 2048, 8, 1]⟩
abbrev S2x2048x1x640 : Shape := ⟨4, ![2, 2048, 1, 640]⟩
abbrev S2x2048x8x640 : Shape := ⟨4, ![2, 2048, 8, 640]⟩
abbrev S2048x8x640 : Shape := ⟨3, ![2048, 8, 640]⟩

abbrev nBuf : Space → Nat
  | .hbm => 92
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S8x2048, .f32⟩
  | .hbm, ⟨2, _⟩ => ⟨S2048x8, .f32⟩
  | .hbm, ⟨3, _⟩ => ⟨S1x2048x8, .f32⟩
  | .hbm, ⟨4, _⟩ => ⟨S1x2048x2, .f32⟩
  | .hbm, ⟨5, _⟩ => ⟨S1x2048x2, .i32⟩
  | .hbm, ⟨6, _⟩ => ⟨S2048x8, .f32⟩
  | .hbm, ⟨7, _⟩ => ⟨S2048x2, .f32⟩
  | .hbm, ⟨8, _⟩ => ⟨S2048x2, .i32⟩
  | .hbm, ⟨9, _⟩ => ⟨S_, .f32⟩
  | .hbm, ⟨10, _⟩ => ⟨S2048x8, .f32⟩
  | .hbm, ⟨11, _⟩ => ⟨S2048, .i32⟩
  | .hbm, ⟨12, _⟩ => ⟨S2048x1, .i32⟩
  | .hbm, ⟨13, _⟩ => ⟨S_, .i32⟩
  | .hbm, ⟨14, _⟩ => ⟨S2048x1, .i32⟩
  | .hbm, ⟨15, _⟩ => ⟨S2048x1, .i1⟩
  | .hbm, ⟨16, _⟩ => ⟨S_, .i32⟩
  | .hbm, ⟨17, _⟩ => ⟨S2048x1, .i32⟩
  | .hbm, ⟨18, _⟩ => ⟨S2048x1, .i32⟩
  | .hbm, ⟨19, _⟩ => ⟨S2048x1, .i32⟩
  | .hbm, ⟨20, _⟩ => ⟨S_, .i32⟩
  | .hbm, ⟨21, _⟩ => ⟨S2048x2, .i32⟩
  | .hbm, ⟨22, _⟩ => ⟨S2048x2, .i1⟩
  | .hbm, ⟨23, _⟩ => ⟨S_, .i32⟩
  | .hbm, ⟨24, _⟩ => ⟨S2048x2, .i32⟩
  | .hbm, ⟨25, _⟩ => ⟨S2048x2, .i32⟩
  | .hbm, ⟨26, _⟩ => ⟨S2048x2, .i32⟩
  | .hbm, ⟨27, _⟩ => ⟨S2048x2, .i32⟩
  | .hbm, ⟨28, _⟩ => ⟨S2048x2x1, .i32⟩
  | .hbm, ⟨29, _⟩ => ⟨S2048x2x1, .i32⟩
  | .hbm, ⟨30, _⟩ => ⟨S2048x2x2, .i32⟩
  | .hbm, ⟨31, _⟩ => ⟨S2048x8, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048x1, .f32⟩
  | .hbm, ⟨38, _⟩ => ⟨S2048x8, .f32⟩
  | .hbm, ⟨39, _⟩ => ⟨S2048x8, .f32⟩
  | .hbm, ⟨40, _⟩ => ⟨S2048x8, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x8, .f32⟩
  | .hbm, ⟨45, _⟩ => ⟨S2048x8, .f32⟩
  | .hbm, ⟨46, _⟩ => ⟨S2048x2x1, .i32⟩
  | .hbm, ⟨47, _⟩ => ⟨S1x1x8, .i32⟩
  | .hbm, ⟨48, _⟩ => ⟨S2048x2x8, .i32⟩
  | .hbm, ⟨49, _⟩ => ⟨S2048x2x8, .i32⟩
  | .hbm, ⟨50, _⟩ => ⟨S2048x2x8, .i1⟩
  | .hbm, ⟨51, _⟩ => ⟨S2048x2x8, .i32⟩
  | .hbm, ⟨52, _⟩ => ⟨S2x2048x8, .i32⟩
  | .hbm, ⟨53, _⟩ => ⟨S4096x8, .i32⟩
  | .hbm, ⟨54, _⟩ => ⟨S_, .i32⟩
  | .hbm, ⟨55, _⟩ => ⟨S_, .i32⟩
  | .hbm, ⟨56, _⟩ => ⟨S4096x8, .i32⟩
  | .hbm, ⟨57, _⟩ => ⟨S_, .i32⟩
  | .hbm, ⟨58, _⟩ => ⟨S4096x8, .i32⟩
  | .hbm, ⟨59, _⟩ => ⟨S4096x8, .i32⟩
  | .hbm, ⟨60, _⟩ => ⟨S2x2048x8, .i32⟩
  | .hbm, ⟨61, _⟩ => ⟨S_, .i32⟩
  | .hbm, ⟨62, _⟩ => ⟨S2x2048x8, .i32⟩
  | .hbm, ⟨63, _⟩ => ⟨S2x2048x8, .i1⟩
  | .hbm, ⟨64, _⟩ => ⟨S2x2048x8, .i32⟩
  | .hbm, ⟨65, _⟩ => ⟨S2x2048x8, .i32⟩
  | .hbm, ⟨66, _⟩ => ⟨S_, .i32⟩
  | .hbm, ⟨67, _⟩ => ⟨S8, .i32⟩
  | .hbm, ⟨68, _⟩ => ⟨S2x2048x8, .i32⟩
  | .hbm, ⟨69, _⟩ => ⟨S_, .i32⟩
  | .hbm, ⟨70, _⟩ => ⟨S2x2048, .i32⟩
  | .hbm, ⟨71, _⟩ => ⟨S1x2048x8, .f32⟩
  | .hbm, ⟨72, _⟩ => ⟨S2x2048x8, .f32⟩
  | .hbm, ⟨73, _⟩ => ⟨S2x2048x8, .f32⟩
  | .hbm, ⟨74, _⟩ => ⟨S2x2048x8, .f32⟩
  | .hbm, ⟨75, _⟩ => ⟨S2x2048x1, .i32⟩
  | .hbm, ⟨76, _⟩ => ⟨S1x1x640, .i32⟩
  | .hbm, ⟨77, _⟩ => ⟨S2x2048x640, .i32⟩
  | .hbm, ⟨78, _⟩ => ⟨S2x2048x640, .i32⟩
  | .hbm, ⟨79, _⟩ => ⟨S2x2048x640, .i1⟩
  | .hbm, ⟨80, _⟩ => ⟨S2x2048x640, .f32⟩
  | .hbm, ⟨81, _⟩ => ⟨S2x2048x8x1, .f32⟩
  | .hbm, ⟨82, _⟩ => ⟨S2x2048x1x640, .f32⟩
  | .hbm, ⟨83, _⟩ => ⟨S2x2048x8x640, .f32⟩
  | .hbm, ⟨84, _⟩ => ⟨S2x2048x8x640, .f32⟩
  | .hbm, ⟨85, _⟩ => ⟨S2x2048x8x640, .f32⟩
  | .hbm, ⟨86, _⟩ => ⟨S_, .f32⟩
  | .hbm, ⟨87, _⟩ => ⟨S2048x8x640, .f32⟩
  | .hbm, ⟨88, _⟩ => ⟨S_, .f32⟩
  | .hbm, ⟨89, _⟩ => ⟨S2048x8x640, .f32⟩
  | .hbm, ⟨90, _⟩ => ⟨S2048x8x640, .i1⟩
  | .hbm, ⟨91, _⟩ => ⟨S2048x8x640, .i1⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call1_call0_c : Ref sig .tc := ⟨.hbm, 54, rfl⟩
abbrev main_call1_call0_v0 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩

abbrev nD : Nat := 1
abbrev τ : Topo := Topo.v7x

variable {F : FTy → Type} [FloatOps F]
-- ==== Proof.Choice.lean ====
module
public import Mathlib.Data.EReal.Basic
public import Mathlib.Data.Finset.Fold
public import Mathlib.Data.Fintype.Basic
public import Mathlib.Order.BoundedOrder.Basic
public import Idealize.ShloMosaic.Lib.PlanTiles.StableSort
public import Idealize.ShloMosaic.PureOps.Ideal
public import Idealize.ShloMosaic.PureOps.Reduce
public import Idealize.ShloMosaic.Lib.StableHlo.Predicate

/-! The two experts of a token: from eight logits, the first index of the greatest, and the first index of the greatest
of the others. The kernel finds them by a maximum and a least index; the reference by a stable sort. Both are shown here
to be the same two indices. -/
@[expose] public section
noncomputable section
namespace Cert.Router
open Idealize.ShloMosaic

/-- `a` is the FIRST index at which `l` is greatest. -/
def IsTop (l : Fin 8 → EReal) (a : Fin 8) : Prop := (∀ e, l e ≤ l a) ∧ ∀ e, e < a → l e < l a

theorem isTop_unique {l : Fin 8 → EReal} {a b : Fin 8} (ha : IsTop l a) (hb : IsTop l b) : a = b := by
  rcases lt_trichotomy a b with h | h | h
  · exact absurd (hb.2 a h) (not_lt.mpr (ha.1 b))
  · exact h
  · exact absurd (ha.2 b h) (not_lt.mpr (hb.1 a))

theorem exists_isTop (l : Fin 8 → EReal) : ∃ a, IsTop l a := by
  obtain ⟨m, hm⟩ := Finite.exists_max l
  classical
  let S : Finset (Fin 8) := Finset.univ.filter fun e => l e = l m
  have hS : S.Nonempty := ⟨m, by simp [S]⟩
  refine ⟨S.min' hS, ?_⟩
  have hmem : l (S.min' hS) = l m := by have := S.min'_mem hS; simpa [S] using this
  refine ⟨fun e => hmem ▸ hm e, fun e he => ?_⟩
  rw [hmem]
  refine lt_of_le_of_ne (hm e) fun h => ?_
  exact absurd (S.min'_le e (by simp [S, h])) (not_le.mpr he)

/-- The first index of the greatest entry. -/
def top (l : Fin 8 → EReal) : Fin 8 := Classical.choose (exists_isTop l)

theorem isTop_top (l : Fin 8 → EReal) : IsTop l (top l) := Classical.choose_spec (exists_isTop l)

theorem top_eq {l : Fin 8 → EReal} {a : Fin 8} (h : IsTop l a) : top l = a := isTop_unique (isTop_top l) h

/-- The entries with the one at `a` taken out (made `−∞`). -/
def without (l : Fin 8 → EReal) (a : Fin 8) : Fin 8 → EReal := fun e => if e = a then ⊥ else l e

/-- The first index of the greatest entry among the others. -/
def second (l : Fin 8 → EReal) : Fin 8 := top (without l (top l))

theorem second_ne {l : Fin 8 → EReal} (hl : ∀ e, l e ≠ ⊥) : second l ≠ top l := by
  intro h
  have h1 := (isTop_top (without l (top l))).1
  obtain ⟨e, he⟩ : ∃ e : Fin 8, e ≠ top l := exists_ne _
  have h2 := h1 e
  change _ ≤ without l (top l) (second l) at h2
  rw [h] at h2
  unfold without at h2
  rw [if_neg he, if_pos rfl] at h2
  exact hl e (le_bot_iff.mp h2)

/-- The greatest of the others, read off the entries themselves. -/
theorem without_second {l : Fin 8 → EReal} (hl : ∀ e, l e ≠ ⊥) : without l (top l) (second l) = l (second l) :=
  if_neg (second_ne hl)

/-- The second choice, from its own description. -/
theorem second_eq {l : Fin 8 → EReal} {b : Fin 8} (hl : ∀ e, l e ≠ ⊥) (hb : b ≠ top l)
    (h1 : ∀ e, e ≠ top l → l e ≤ l b) (h2 : ∀ e, e ≠ top l → e < b → l e < l b) : second l = b := by
  refine top_eq ⟨fun e => ?_, fun e he => ?_⟩
  · unfold without
    rw [if_neg hb]
    split
    · exact bot_le
    · next h => exact h1 e h
  · unfold without
    rw [if_neg hb]
    split
    · exact bot_lt_iff_ne_bot.mpr (hl b)
    · next h => exact h2 e h he

/-- The maximum of the eight entries, taken by a fold from `−∞`, is the entry at the first greatest index. -/
theorem fold_max_eq (l : Fin 8 → EReal) : Finset.univ.fold max ⊥ l = l (top l) := by
  apply le_antisymm
  · rw [Finset.fold_max_le]
    exact ⟨bot_le, fun e _ => (isTop_top l).1 e⟩
  · rw [Finset.le_fold_max]
    exact Or.inr ⟨top l, Finset.mem_univ _, le_rfl⟩

/-- The least of the index words that stand at the greatest entry (8 standing elsewhere) is the first greatest index. -/
theorem fold_min_index (l : Fin 8 → EReal) (f : Fin 8 → BitVec 32)
    (hf : ∀ e, f e = if l e = l (top l) then BitVec.ofNat 32 e.val else 8#32) :
    Finset.univ.fold IntOp.minsi 2147483647#32 f = BitVec.ofNat 32 (top l).val := by
  have hhom : (Finset.univ.fold IntOp.minsi 2147483647#32 f).toInt
      = Finset.univ.fold min (2147483647 : Int) fun e => (f e).toInt := by
    have h := Finset.fold_hom (op := IntOp.minsi (w := 32)) (op' := (min : Int → Int → Int)) (s := Finset.univ) (f := f)
      (b := 2147483647#32) (m := BitVec.toInt) (fun x y => by
        simp only [IntOp.minsi, BitVec.slt, decide_eq_true_eq]
        split_ifs <;> omega)
    rw [← h]; rfl
  have hval : ∀ e, (f e).toInt = if l e = l (top l) then (e.val : Int) else 8 := fun e => by
    rw [hf e]
    split
    · exact StableHlo.Predicate.toInt_ofNat_small _ (by omega)
    · rfl
  apply BitVec.eq_of_toInt_eq
  rw [hhom]
  have htop : (BitVec.ofNat 32 (top l).val).toInt = ((top l).val : Int) :=
    StableHlo.Predicate.toInt_ofNat_small _ (by omega)
  rw [htop]
  apply le_antisymm
  · rw [Finset.fold_min_le]
    exact Or.inr ⟨top l, Finset.mem_univ _, by rw [hval, if_pos rfl]⟩
  · rw [Finset.le_fold_min]
    have := (top l).isLt
    refine ⟨by omega, fun e _ => ?_⟩
    rw [hval]
    split
    · next h =>
      have : top l ≤ e := not_lt.mp fun h' => absurd ((isTop_top l).2 e h') (by rw [h]; exact lt_irrefl _)
      exact_mod_cast this
    · omega

/-- How many entries lie below the one at `a`. -/
def below (l : Fin 8 → EReal) (a : Fin 8) : Nat := (Finset.univ.filter fun e => l e < l a).card

theorem below_lt_iff (l : Fin 8 → EReal) (a b : Fin 8) : below l a < below l b ↔ l a < l b := by
  unfold below
  constructor
  · intro h
    by_contra hn
    refine absurd h (not_lt.mpr (Finset.card_le_card fun e he => ?_))
    simp only [Finset.mem_filter, Finset.mem_univ, true_and] at he ⊢
    exact lt_of_lt_of_le he (not_lt.mp hn)
  · intro h
    apply Finset.card_lt_card
    rw [Finset.ssubset_iff_of_subset]
    · exact ⟨a, by simpa using h, by simp⟩
    · intro e he
      simp only [Finset.mem_filter, Finset.mem_univ, true_and] at he ⊢
      exact lt_trans he h

/-- The stable sort of the eight positions, greater entry first, begins with the first choice and then the second. -/
theorem sorted_two {l : Fin 8 → EReal} (hl : ∀ e, l e ≠ ⊥) :
    sortedFrom (fun k k' : Fin 8 => decide (l k' < l k)) 0 = top l
      ∧ sortedFrom (fun k k' : Fin 8 => decide (l k' < l k)) 1 = second l := by
  have hfun : (fun k k' : Fin 8 => decide (l k' < l k)) = fun k k' => decide (below l k' < below l k) := by
    funext k k'
    rw [decide_eq_decide, below_lt_iff]
  rw [hfun]
  have hp := PlanTiles.pairwise_stableSort_lex (below l) (· < ·) (List.finRange 8) (List.pairwise_lt_finRange 8)
  have hperm := perm_stableSort (fun k k' : Fin 8 => decide (below l k' < below l k)) (List.finRange 8)
  have hlen := length_sortPositions 8 (fun k k' : Fin 8 => decide (below l k' < below l k))
  unfold sortPositions at hlen
  obtain ⟨a, b, rest, hL⟩ : ∃ a b rest, stableSort (fun k k' : Fin 8 => decide (below l k' < below l k)) (List.finRange 8)
      = a :: b :: rest := by
    match hL : stableSort (fun k k' : Fin 8 => decide (below l k' < below l k)) (List.finRange 8) with
    | a :: b :: rest => exact ⟨a, b, rest, rfl⟩
    | [_] => rw [hL] at hlen; simp at hlen
    | [] => rw [hL] at hlen; simp at hlen
  have h0 : sortedFrom (fun k k' : Fin 8 => decide (below l k' < below l k)) 0 = a := by
    unfold sortedFrom sortPositions
    rw [List.get_of_eq hL]; rfl
  have h1 : sortedFrom (fun k k' : Fin 8 => decide (below l k' < below l k)) 1 = b := by
    unfold sortedFrom sortPositions
    rw [List.get_of_eq hL]; rfl
  rw [h0, h1]
  rw [hL] at hp hperm
  have hall : ∀ e : Fin 8, e = a ∨ e = b ∨ e ∈ rest := fun e => by
    have := hperm.mem_iff.mpr (List.mem_finRange e)
    simpa using this
  obtain ⟨ha, hp'⟩ := List.pairwise_cons.mp hp
  obtain ⟨hb, -⟩ := List.pairwise_cons.mp hp'
  have hlex : ∀ x y, PlanTiles.Lex (below l) (· < ·) x y → l y ≤ l x ∧ (y < x → l y < l x) ∧ x ≠ y := by
    rintro x y (h | ⟨h, h'⟩)
    · rw [below_lt_iff] at h
      exact ⟨h.le, fun _ => h, by rintro rfl; exact lt_irrefl _ h⟩
    · refine ⟨not_lt.mp fun h2 => ?_, fun h2 => absurd h' (lt_asymm h2), ne_of_lt h'⟩
      rw [← below_lt_iff] at h2; omega
  have hA : ∀ e, e ≠ a → l e ≤ l a ∧ (e < a → l e < l a) ∧ a ≠ e := fun e he => by
    rcases hall e with h | h | h
    · exact absurd h he
    · exact hlex a e (ha e (by simp [h]))
    · exact hlex a e (ha e (by simp [h]))
  have hta : top l = a := top_eq ⟨fun e => by
    by_cases h : e = a
    · rw [h]
    · exact (hA e h).1, fun e h => (hA e (ne_of_lt h)).2.1 h⟩
  refine ⟨hta.symm, (second_eq hl ?_ ?_ ?_).symm⟩
  · rw [hta]; exact (hlex a b (ha b (by simp))).2.2.symm
  · intro e he
    rw [hta] at he
    rcases hall e with h | h | h
    · exact absurd h he
    · rw [h]
    · exact (hlex b e (hb e h)).1
  · intro e he hlt
    rw [hta] at he
    rcases hall e with h | h | h
    · exact absurd h he
    · exact absurd h (ne_of_lt hlt)
    · exact (hlex b e (hb e h)).2.1 hlt

end Cert.Router
end
-- ==== Proof.GateBlock.lean ====
module
public import proofs.«01_k».proof.Proof.Gen.KernelIdeal.Frame
public import proofs.«01_k».proof.Proof.Choice
public import Idealize.ShloMosaic.Lib.Pointwise

/-! What one block of the first launch computes: for each of 256 tokens the two chosen experts and their logits. -/
@[expose] public section
set_option maxRecDepth 16384
noncomputable section
namespace Cert.KernelIdeal.Gate
open Idealize.ShloMosaic Cert.KernelIdeal.Gen Idealize.ShloMosaic.Pointwise Cert.Router

variable (w : Vec Ideal S8x2048 .f32) (x : Vec Ideal S256x2048 .f32)

/-- The eight logits of the block's token `l`. -/
def row (l : Fin 256) (e : Fin 8) : EReal := ∑ k : Fin 2048, w (ix2 e k) * x (ix2 l k)

theorem negInf : Ideal.ofBits FTy.f32 4286578688#32 = ⊥ := by simp [Ideal.ofBits, Ideal.ieee]

/-- Comparing two expert numbers as words is comparing the numbers. -/
theorem select_word {α : Type} (e a : Fin 8) (p q : α) :
    Scalar.select (IntOp.cmpi CmpIPredicate.eq (BitVec.ofNat 32 e.val) (BitVec.ofNat 32 a.val)) p q = if e = a then p else q := by
  revert e a
  have h : ∀ e a : Fin 8, IntOp.cmpi CmpIPredicate.eq (BitVec.ofNat 32 e.val) (BitVec.ofNat 32 a.val) = BitVec.ofBool (decide (e = a)) := by
    decide
  intro e a
  rw [h]
  by_cases he : e = a <;> simp [he, Scalar.select]

theorem logit_apply (e : Fin 8) (l : Fin 256) : k0_pay1 w x (ix2 e l) = row w x l e := by
  pointwise [k0_pay1]
  rfl

theorem max1_apply (l : Fin 256) : k0_pay2 w x (ix2 0 l) = row w x l (top (row w x l)) := by
  pointwise [k0_pay2]
  simp only [logit_apply, negInf]
  exact fold_max_eq _

theorem idx1_apply (l : Fin 256) : k0_pay3 w x (ix2 0 l) = BitVec.ofNat 32 (top (row w x l)).val := by
  pointwise [k0_pay3]
  simp only [logit_apply, max1_apply]
  exact fold_min_index _ _ fun e => rfl

theorem masked_apply (e : Fin 8) (l : Fin 256) : k0_pay4 w x (ix2 e l) = without (row w x l) (top (row w x l)) e := by
  pointwise [k0_pay4]
  rw [logit_apply, negInf, idx1_apply, select_word]
  rfl

theorem max2_apply (l : Fin 256) :
    k0_pay5 w x (ix2 0 l) = without (row w x l) (top (row w x l)) (second (row w x l)) := by
  pointwise [k0_pay5]
  simp only [masked_apply, negInf]
  exact fold_max_eq _

/-- The two rows of the logits' block. -/
theorem metaf_apply (hr : ∀ l e, row w x l e ≠ ⊥) (l : Fin 256) : k0_pay6 w x (ix3 0 0 l) = row w x l (top (row w x l))
    ∧ k0_pay6 w x (ix3 0 1 l) = row w x l (second (row w x l)) := by
  constructor
  · pointwise [k0_pay6]
    exact max1_apply w x l
  · pointwise [k0_pay6]
    rw [max2_apply, without_second (hr l)]

/-- The two rows of the index block. -/
theorem metai_apply (l : Fin 256) : k0_pay7 w x (ix3 0 0 l) = BitVec.ofNat 32 (top (row w x l)).val
    ∧ k0_pay7 w x (ix3 0 1 l) = BitVec.ofNat 32 (second (row w x l)).val := by
  constructor
  · pointwise [k0_pay7]
    exact idx1_apply w x l
  · pointwise [k0_pay7]
    simp only [masked_apply, max2_apply]
    exact fold_min_index _ _ fun e => rfl

end Cert.KernelIdeal.Gate
end
-- ==== Proof.Counting.lean ====
module
public import Mathlib.Data.Nat.Count
public import Mathlib.Algebra.BigOperators.Group.List.Basic
public import Mathlib.Algebra.BigOperators.Group.Finset.Basic
public import Mathlib.Algebra.BigOperators.Intervals
public import Mathlib.Algebra.BigOperators.Fin

/-! Counting the slots that ask for one expert: how many come before a given slot, and how many find room. -/
@[expose] public section
noncomputable section
namespace Cert.Router

/-- How many of the first `n` tokens choose expert `e` under the choice `f`. -/
def cnt (f : Nat → Fin 8) (e : Fin 8) (n : Nat) : Nat := Nat.count (fun q => f q = e) n

theorem cnt_zero (f : Nat → Fin 8) (e : Fin 8) : cnt f e 0 = 0 := Nat.count_zero _

theorem cnt_succ (f : Nat → Fin 8) (e : Fin 8) (n : Nat) : cnt f e (n + 1) = cnt f e n + if f n = e then 1 else 0 :=
  Nat.count_succ _ n

theorem cnt_le (f : Nat → Fin 8) (e : Fin 8) (n : Nat) : cnt f e n ≤ n := Nat.count_le _

theorem cnt_lt {f : Nat → Fin 8} {e : Fin 8} {n N : Nat} (h : f n = e) (hn : n < N) : cnt f e n < cnt f e N :=
  Nat.count_strict_mono h hn

/-- The count over a stretch of tokens after the first `n`. -/
theorem cnt_add (f : Nat → Fin 8) (e : Fin 8) (n k : Nat) : cnt f e (n + k) = cnt f e n + cnt (fun q => f (n + q)) e k := by
  unfold cnt
  rw [Nat.count_add]

/-- A count is the sum of the marks. -/
theorem cnt_eq_sum (f : Nat → Fin 8) (e : Fin 8) (n : Nat) : cnt f e n = ∑ q ∈ Finset.range n, if f q = e then 1 else 0 := by
  induction n with
  | zero => rw [cnt_zero]; rfl
  | succ n ih => rw [cnt_succ, Finset.sum_range_succ, ih]

/-- A count, as the sum of the marks along a list. -/
theorem cnt_eq_list (f : Nat → Fin 8) (e : Fin 8) (n : Nat) :
    cnt f e n = ((List.range n).map fun q => if f q = e then 1 else 0).sum := by
  induction n with
  | zero => rfl
  | succ n ih => rw [cnt_succ, List.range_succ, List.map_append, List.sum_append, ih]; simp

/-- The slots in the order that experts are given out: all the first choices, then all the second ones. -/
def slot (A B : Nat → Fin 8) (s : Nat) : Fin 8 := if s < 2048 then A s else B (s - 2048)

theorem slot_first (A B : Nat → Fin 8) {s : Nat} (h : s < 2048) : slot A B s = A s := if_pos h

theorem slot_later (A B : Nat → Fin 8) (s : Nat) : slot A B (2048 + s) = B s := by
  unfold slot
  rw [if_neg (by omega), Nat.add_sub_cancel_left]

theorem cnt_slot_first (A B : Nat → Fin 8) (e : Fin 8) {n : Nat} (h : n ≤ 2048) : cnt (slot A B) e n = cnt A e n := by
  rw [cnt_eq_sum, cnt_eq_sum]
  refine Finset.sum_congr rfl fun q hq => ?_
  rw [slot_first A B (lt_of_lt_of_le (Finset.mem_range.mp hq) h)]

theorem cnt_slot_later (A B : Nat → Fin 8) (e : Fin 8) (n : Nat) :
    cnt (slot A B) e (2048 + n) = cnt A e 2048 + cnt B e n := by
  rw [cnt_add, cnt_slot_first A B e (le_refl _)]
  congr 1
  rw [cnt_eq_sum, cnt_eq_sum]
  exact Finset.sum_congr rfl fun q _ => by rw [slot_later]

/-- Of the first `N` slots, those that choose `e` and find fewer than `C` before them number the smaller of `C` and all of them. -/
theorem kept_eq (f : Nat → Fin 8) (e : Fin 8) (C N : Nat) :
    (∑ q ∈ Finset.range N, if f q = e ∧ cnt f e q < C then 1 else 0) = min (cnt f e N) C := by
  induction N with
  | zero => rw [cnt_zero, Finset.range_zero, Finset.sum_empty, Nat.zero_min]
  | succ n ih =>
    rw [Finset.sum_range_succ, ih, cnt_succ]
    by_cases h : f n = e
    · by_cases h2 : cnt f e n < C
      · rw [if_pos ⟨h, h2⟩, if_pos h]; omega
      · rw [if_neg (fun h3 => h2 h3.2), if_pos h]; omega
    · rw [if_neg (fun h3 => h h3.1), if_neg h]; omega

end Cert.Router
end
-- ==== Proof.Spec.lean ====
module
public import proofs.«01_k».proof.Proof.Choice
public import proofs.«01_k».proof.Proof.Counting

/-! What the router returns, written out from the tokens' eight logits alone: which two experts a token takes, the place it
gets in each expert's queue, its two weights, and the three results. -/
@[expose] public section
noncomputable section
namespace Cert.Router
open Idealize.ShloMosaic

variable (L : Nat → Fin 8 → EReal)

/-- The first choice of token `n`. -/
def fstE (n : Nat) : Fin 8 := top (L n)
/-- The second choice of token `n`. -/
def sndE (n : Nat) : Fin 8 := second (L n)

/-- The exponential of the second logit less the first. -/
def gap (n : Nat) : EReal := Ideal.exp (L n (sndE L n) - L n (fstE L n))
/-- The weight of the first choice. -/
def prob1 (n : Nat) : EReal := Ideal.div 1 (1 + gap L n)
/-- The weight of the second choice. -/
def prob2 (n : Nat) : EReal := gap L n * prob1 L n

/-- How many slots ask for expert `e` in all. -/
def total (e : Fin 8) : Nat := cnt (fstE L) e 2048 + cnt (sndE L) e 2048

/-- The place of token `n` in the queue of expert `e`, as a word; `−1` for an expert it does not choose. -/
def rank (n : Nat) (e : Fin 8) : BitVec 32 :=
  if fstE L n = e then BitVec.ofNat 32 (cnt (fstE L) e n)
  else if sndE L n = e then BitVec.ofNat 32 (cnt (fstE L) e 2048 + cnt (sndE L) e n)
  else 4294967295#32

/-- The weight token `n` gives expert `e`. -/
def weight (n : Nat) (e : Fin 8) : EReal := if fstE L n = e then prob1 L n else if sndE L n = e then prob2 L n else 0

/-- The first result: how many places of expert `e` are taken, at most 640. -/
def usedSpec (e : Fin 8) : BitVec 32 := BitVec.ofNat 32 (min (total L e) 640)

/-- The second result: the weight of token `n` at its own place in expert `e`'s queue, zero at the other places. -/
def cbSpec (n : Nat) (e : Fin 8) (c : Nat) : EReal := if rank L n e = BitVec.ofNat 32 c then weight L n e else 0

/-- The third result: whether that weight is nonzero. -/
def secSpec (n : Nat) (e : Fin 8) (c : Nat) : BitVec 1 := BitVec.ofBool (decide (cbSpec L n e c ≠ 0))

end Cert.Router
end
-- ==== Proof.Logits.lean ====
module
public import proofs.«01_k».proof.Proof.Spec

/-! The logits of the tokens, from the two arguments. -/
@[expose] public section
noncomputable section
namespace Cert.Router

/-- Token `n`'s logit for expert `e`: the product of the expert's weights and the token's features, summed. -/
def logits (x : Fin 2048 → Fin 2048 → EReal) (w : Fin 8 → Fin 2048 → EReal) (n : Nat) (e : Fin 8) : EReal :=
  ∑ k, w e k * x (Fin.ofNat 2048 n) k

/-- A sum of reals among the extended reals is the real sum. -/
theorem coe_sum_real {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Finite arguments give real logits. -/
theorem logits_real {x : Fin 2048 → Fin 2048 → EReal} {w : Fin 8 → Fin 2048 → EReal}
    (hx : ∀ n k, ∃ r : ℝ, x n k = r) (hw : ∀ e k, ∃ r : ℝ, w e k = r) (n : Nat) (e : Fin 8) : ∃ r : ℝ, logits x w n e = r := by
  choose X hX using hx
  choose W hW using hw
  refine ⟨∑ k, W e k * X (Fin.ofNat 2048 n) k, ?_⟩
  unfold logits
  rw [coe_sum_real]
  exact Finset.sum_congr rfl fun k _ => by rw [hX, hW, EReal.coe_mul]

end Cert.Router
end
-- ==== Proof.RankBlock.lean ====
module
public import proofs.«01_k».proof.Proof.Gen.KernelIdeal.Frame
public import proofs.«01_k».proof.Proof.GateBlock
public import proofs.«01_k».proof.Proof.Logits
public import Idealize.ShloMosaic.Lib.Pointwise

/-! What the second launch computes for one block of 256 tokens: the running count of every expert's takers, the tokens'
places in the queues, and their weights. -/
@[expose] public section
set_option maxRecDepth 16384
noncomputable section
namespace Cert.KernelIdeal.Rank
open Idealize.ShloMosaic Cert.KernelIdeal.Gen Idealize.ShloMosaic.Pointwise Cert.Router

/-- A count, as an extended real. -/
abbrev num (k : Nat) : EReal := ((k : ℝ) : EReal)

/-- A row of expert numbers, and a row of logits, of one block. -/
abbrev IRow := Vec Ideal S1x1x256 .i32
abbrev FRow := Vec Ideal S1x1x256 .f32

/-- The running counts along one block, the counts before it given. -/
def cumB (carry : FVec Ideal S8x1 .f32) (r : IRow) : FVec Ideal S8x256 .f32 := k1_pay14 (k1_pay1 (F := Ideal)) carry (k1_pay4 r)

/-- The counts after a block: the last column. -/
def carryOf (c : FVec Ideal S8x256 .f32) : FVec Ideal S8x1 .f32 := extractStridedSlice S8x1 ![0, 255] c slices_S8x256_o0_255_S8x1

/-- The running counts of block `b`, the blocks taken in order. -/
def cums (r : Nat → IRow) : Nat → FVec Ideal S8x256 .f32
  | 0 => cumB (broadcast S8x1 (Scalar.ofBits .f32 0x00000000#32)) (r 0)
  | b + 1 => cumB (carryOf (cums r b)) (r (b + 1))

/-- The places that one block's tokens get. -/
def rankB (r1 r2 : IRow) (c1 c2 : FVec Ideal S8x256 .f32) (tot : FVec Ideal S8x1 .f32) : IVec S256x8 32 :=
  k1_pay56 (k1_pay2 (F := Ideal) r1) (k1_pay2 (F := Ideal) r2) (k1_pay4 r1) (k1_pay4 r2) c1 c2 tot

/-- The weights of one block's tokens. -/
def valB (r1 r2 : IRow) (f1 f2 : FRow) : FVec Ideal S256x8 .f32 :=
  k1_pay57 (k1_pay55 (k1_pay2 (F := Ideal) r1) (k1_pay2 (F := Ideal) r2) f1 f2)

/-- The places taken, at most 640 of each expert. -/
def usedB (t1 t2 : FVec Ideal S8x1 .f32) : IVec S8x1 32 :=
  fptosi 32 (minimumf (addf t1 t2) (broadcast S8x1 (Scalar.ofBits .f32 0x44200000#32)))

variable {f : Nat → Fin 8} {r : IRow}

theorem word_eq (e a : Fin 8) :
    IntOp.cmpi CmpIPredicate.eq (BitVec.ofNat 32 e.val) (BitVec.ofNat 32 a.val) = BitVec.ofBool (decide (a = e)) := by
  revert e a; decide

theorem mask_apply (hr : ∀ l : Fin 256, r (ix3 0 0 l) = BitVec.ofNat 32 (f l.val).val) (e : Fin 8) (l : Fin 256) :
    k1_pay2 (F := Ideal) r (ix2 e l) = BitVec.ofBool (decide (f l.val = e)) := by
  pointwise [k1_pay2]
  rw [hr]
  exact word_eq _ _

/-- A truth value widened and read as a number. -/
theorem sitofp_bool (p : Prop) [Decidable p] :
    (FloatOps.sitofp FTy.f32 (BitVec.setWidth 32 (BitVec.ofBool (decide p))) : Ideal .f32) = if p then (1 : EReal) else 0 := by
  by_cases h : p
  · rw [if_pos h, decide_eq_true h]
    show (((BitVec.setWidth 32 (BitVec.ofBool true)).toInt : ℝ) : EReal) = 1
    rw [show (BitVec.setWidth 32 (BitVec.ofBool true)).toInt = 1 from by decide]
    norm_num
  · rw [if_neg h, decide_eq_false h]
    show (((BitVec.setWidth 32 (BitVec.ofBool false)).toInt : ℝ) : EReal) = 0
    rw [show (BitVec.setWidth 32 (BitVec.ofBool false)).toInt = 0 from by decide]
    norm_num

theorem hot_apply (hr : ∀ l : Fin 256, r (ix3 0 0 l) = BitVec.ofNat 32 (f l.val).val) (e : Fin 8) (l : Fin 256) :
    k1_pay4 r (ix2 e l) = if f l.val = e then (1 : EReal) else 0 := by
  pointwise [k1_pay4]
  rw [mask_apply hr, sitofp_bool]

theorem upper_apply (k l : Fin 256) : k1_pay1 (F := Ideal) (ix2 k l) = if k.val < l.val + 1 then (1 : EReal) else 0 := by
  pointwise [k1_pay1]
  have h : IntOp.cmpi CmpIPredicate.sle (BitVec.ofNat 32 k.val) (BitVec.ofNat 32 l.val) = BitVec.ofBool (decide (k.val < l.val + 1)) := by
    show BitVec.ofBool (BitVec.sle (BitVec.ofNat 32 k.val) (BitVec.ofNat 32 l.val)) = _
    congr 1
    unfold BitVec.sle
    rw [StableHlo.Predicate.toInt_ofNat_small _ (by omega), StableHlo.Predicate.toInt_ofNat_small _ (by omega), decide_eq_decide]
    omega
  rw [h, sitofp_bool]

/-- Counting the first `M` of `N` tokens. -/
theorem sum_upto (f : Nat → Fin 8) (e : Fin 8) (M N : Nat) :
    (∑ q ∈ Finset.range N, if f q = e ∧ q < M then 1 else 0) = cnt f e (min N M) := by
  induction N with
  | zero => rw [Nat.zero_min, cnt_zero]; rfl
  | succ n ih =>
    rw [Finset.sum_range_succ, ih]
    by_cases h : n < M
    · rw [min_eq_left (by omega), min_eq_left (by omega), cnt_succ]
      simp only [h, and_true]
    · rw [min_eq_right (by omega), min_eq_right (by omega), if_neg (fun h2 => h h2.2), Nat.add_zero]

/-- The product with the triangle of ones counts the takers up to token `l`. -/
theorem sum_tri (f : Nat → Fin 8) (e : Fin 8) (l : Fin 256) :
    ∑ k : Fin 256, (if f k.val = e then (1 : EReal) else 0) * (if k.val < l.val + 1 then (1 : EReal) else 0) = num (cnt f e (l.val + 1)) := by
  have h : ∀ k : Fin 256, (if f k.val = e then (1 : EReal) else 0) * (if k.val < l.val + 1 then (1 : EReal) else 0)
      = (((if f k.val = e ∧ k.val < l.val + 1 then 1 else 0 : Nat) : ℝ) : EReal) := fun k => by
    by_cases h1 : f k.val = e <;> by_cases h2 : k.val < l.val + 1 <;> simp [h1, h2]
  rw [Finset.sum_congr rfl fun k _ => h k, ← coe_sum_real, ← Nat.cast_sum,
    Fin.sum_univ_eq_sum_range (fun q => if f q = e ∧ q < l.val + 1 then 1 else 0) 256, sum_upto, min_eq_right (by omega)]

theorem cumB_apply (hr : ∀ l : Fin 256, r (ix3 0 0 l) = BitVec.ofNat 32 (f l.val).val) (carry : FVec Ideal S8x1 .f32)
    (e : Fin 8) (l : Fin 256) : cumB carry r (ix2 e l) = num (cnt f e (l.val + 1)) + carry (ix2 e 0) := by
  unfold cumB
  pointwise [k1_pay14]
  simp only [hot_apply hr, upper_apply]
  rw [sum_tri]

theorem carryOf_apply (c : FVec Ideal S8x256 .f32) (e : Fin 8) : carryOf c (ix2 e 0) = c (ix2 e 255) := by
  unfold carryOf
  pointwise []

theorem num_add (a b : Nat) : num a + num b = num (a + b) := by
  unfold num; rw [← EReal.coe_add]; norm_cast

/-- The running count of block `b` at its token `l` is the count over all the tokens up to that one. -/
theorem cums_apply {f : Nat → Fin 8} {r : Nat → IRow}
    (hr : ∀ (b : Nat) (l : Fin 256), b < 8 → r b (ix3 0 0 l) = BitVec.ofNat 32 (f (256 * b + l.val)).val)
    (b : Nat) (hb : b < 8) (e : Fin 8) (l : Fin 256) : cums r b (ix2 e l) = num (cnt f e (256 * b + l.val + 1)) := by
  induction b generalizing l with
  | zero =>
    unfold cums
    rw [cumB_apply (f := f) (fun l => by rw [hr 0 l hb, Nat.mul_zero, Nat.zero_add])]
    rw [show (broadcast S8x1 (Scalar.ofBits .f32 0x00000000#32) : FVec Ideal S8x1 .f32) (ix2 e 0) = 0 from Ideal.ofBits_zero_f32, add_zero,
      Nat.mul_zero, Nat.zero_add]
  | succ b ih =>
    unfold cums
    rw [cumB_apply (f := fun q => f (256 * (b + 1) + q)) (hr (b + 1) · hb), carryOf_apply, ih (by omega), num_add, Nat.add_assoc (256 * (b + 1)) l.val,
      cnt_add f e (256 * (b + 1)), Nat.add_comm]
    rfl

/-- After the last block the carried count is the count over all the tokens. -/
theorem total_apply {f : Nat → Fin 8} {r : Nat → IRow}
    (hr : ∀ (b : Nat) (l : Fin 256), b < 8 → r b (ix3 0 0 l) = BitVec.ofNat 32 (f (256 * b + l.val)).val) (e : Fin 8) :
    carryOf (cums r 7) (ix2 e 0) = num (cnt f e 2048) := by
  rw [carryOf_apply, cums_apply hr 7 (by omega)]
  rfl

theorem num_toInt {k : Nat} (hk : k < 2 ^ 31) : Ideal.fptosi 32 (num k) = BitVec.ofNat 32 k := by
  unfold Ideal.fptosi num
  rw [Ideal.toIntClamped_coe, if_pos (Nat.cast_nonneg k), Int.floor_natCast, min_eq_right (by norm_num; omega), max_eq_right (by norm_num)]
  rfl

theorem neg_one_toInt : Ideal.fptosi 32 (Ideal.ofBits FTy.f32 3212836864#32) = 4294967295#32 := by
  have h : Ideal.ofBits FTy.f32 3212836864#32 = ((-1 : ℝ) : EReal) := by
    simp [Ideal.ofBits, Ideal.ieee, -EReal.coe_mul, -EReal.coe_neg]; norm_num
  unfold Ideal.fptosi
  rw [h, Ideal.toIntClamped_coe, if_neg (by norm_num)]
  norm_num
  rfl

theorem sum_hot (a : Fin 8) (g : Fin 8 → EReal) : ∑ e : Fin 8, (if a = e then (1 : EReal) else 0) * g e = g a := by
  simp [ite_mul]

theorem select_bool {α : Type} (p : Prop) [Decidable p] (x y : α) :
    Scalar.select (BitVec.ofBool (decide p)) x y = if p then x else y := by
  by_cases h : p <;> simp [h, Scalar.select]

theorem num_sub_one (k : Nat) : num (k + 1) - 1 = num k := by
  unfold num
  rw [show (1 : EReal) = ((1 : ℝ) : EReal) from rfl, ← EReal.coe_sub]
  rw [show ((k + 1 : Nat) : ℝ) - 1 = k from by push_cast; ring]

/-- The place of a block's token, from the counts of its two experts. -/
theorem rankB_apply {A B : Nat → Fin 8} {r1 r2 : IRow} (h1 : ∀ l : Fin 256, r1 (ix3 0 0 l) = BitVec.ofNat 32 (A l.val).val)
    (h2 : ∀ l : Fin 256, r2 (ix3 0 0 l) = BitVec.ofNat 32 (B l.val).val) (c1 c2 : FVec Ideal S8x256 .f32) (tot : FVec Ideal S8x1 .f32)
    (l : Fin 256) (e : Fin 8) (k1 k2 T : Nat) (hk1 : c1 (ix2 (A l.val) l) = num (k1 + 1)) (hk2 : c2 (ix2 (B l.val) l) = num (k2 + 1))
    (hT : tot (ix2 (B l.val) 0) = num T) (b1 : k1 < 2 ^ 31) (b2 : T + k2 < 2 ^ 31) :
    rankB r1 r2 c1 c2 tot (ix2 l e) = if A l.val = e then BitVec.ofNat 32 k1
      else if B l.val = e then BitVec.ofNat 32 (T + k2) else 4294967295#32 := by
  unfold rankB
  pointwise [k1_pay56]
  simp only [mask_apply h1, mask_apply h2, hot_apply h1, hot_apply h2, select_bool]
  rw [sum_hot _ fun x => c1 (ix2 x l), sum_hot _ fun x => c2 (ix2 x l), sum_hot _ fun x => tot (ix2 x 0), hk1, hk2, hT, num_sub_one, num_sub_one,
    num_add, Nat.add_comm k2]
  show Ideal.fptosi 32 _ = _
  split
  · exact num_toInt b1
  · split
    · exact num_toInt b2
    · exact neg_one_toInt

/-- The weight of a block's token. -/
theorem valB_apply {A B : Nat → Fin 8} {r1 r2 : IRow} (h1 : ∀ l : Fin 256, r1 (ix3 0 0 l) = BitVec.ofNat 32 (A l.val).val)
    (h2 : ∀ l : Fin 256, r2 (ix3 0 0 l) = BitVec.ofNat 32 (B l.val).val) (f1 f2 : FRow) (l : Fin 256) (e : Fin 8) :
    valB r1 r2 f1 f2 (ix2 l e) = if A l.val = e then Ideal.div 1 (1 + Ideal.exp (f2 (ix3 0 0 l) - f1 (ix3 0 0 l)))
      else if B l.val = e then Ideal.exp (f2 (ix3 0 0 l) - f1 (ix3 0 0 l)) * Ideal.div 1 (1 + Ideal.exp (f2 (ix3 0 0 l) - f1 (ix3 0 0 l)))
      else 0 := by
  unfold valB
  pointwise [k1_pay57, k1_pay55]
  simp only [mask_apply h1, mask_apply h2, select_bool]

/-- The places taken. -/
theorem usedB_apply (t1 t2 : FVec Ideal S8x1 .f32) (e : Fin 8) (a b : Nat) (ha : t1 (ix2 e 0) = num a) (hb : t2 (ix2 e 0) = num b) :
    usedB t1 t2 (ix2 e 0) = BitVec.ofNat 32 (min (a + b) 640) := by
  unfold usedB
  show Ideal.fptosi 32 (min (t1 (ix2 e 0) + t2 (ix2 e 0)) (Ideal.ofBits FTy.f32 0x44200000#32)) = _
  have h : Ideal.ofBits FTy.f32 0x44200000#32 = num 640 := by
    unfold num
    simp [Ideal.ofBits, Ideal.ieee, -EReal.coe_mul]; norm_num
  rw [ha, hb, num_add, h, show min (num (a + b)) (num 640) = num (min (a + b) 640) from by
    unfold num
    rw [Nat.cast_min, EReal.coe_strictMono.monotone.map_min]]
  exact num_toInt (by omega)

end Cert.KernelIdeal.Rank
end
-- ==== Proof.RankPieces.lean ====
module
public import proofs.«01_k».proof.Proof.RankBlock

/-! The second launch writes its two token arrays in eight pieces. Each piece is the block function of the rows that its
block reads, and of the running counts. -/
@[expose] public section
set_option maxRecDepth 16384
noncomputable section
namespace Cert.KernelIdeal.Rank
open Idealize.ShloMosaic Cert.KernelIdeal.Gen Idealize.ShloMosaic.Pointwise Cert.Router

/-- Row `q` of block `b` of a (8, 2, 256) array. -/
def rows {e : EltTy} (x : Vec Ideal S8x2x256 e) (q : Fin 2) (b : Nat) : Vec Ideal S1x1x256 e := fun j => x (ix3 (Fin.ofNat 8 b) q (j 2))

/-- The load of one row is that row. -/
theorem ld_row {e : EltTy} (x : Vec Ideal S8x2x256 e) (b : Nat) (q : Fin 2) (hb : b < 8)
    (inb : ∀ a, (![b, q.val, 0] : Fin 3 → Nat) a + S1x1x256.size a ≤ S8x2x256.size a) :
    View.ld x (Rect.unit (s := S8x2x256) ![b, q.val, 0] S1x1x256.size inb) = rows x q b := by
  funext j
  show x _ = x _
  congr 1
  funext a
  apply Fin.ext
  have h0 : (j 0 : Nat) < 1 := (j 0).isLt
  have h1 : (j 1 : Nat) < 1 := (j 1).isLt
  match a with
  | ⟨0, _⟩ => show b + 1 * (j 0 : Nat) = b % 8
              rw [Nat.mod_eq_of_lt hb]; omega
  | ⟨1, _⟩ => show q.val + 1 * (j 1 : Nat) = q.val
              omega
  | ⟨2, _⟩ => show 0 + 1 * (j 2 : Nat) = (j 2 : Nat)
              omega

variable (x0 : Vec Ideal S8x2x256 .f32) (x1 : Vec Ideal S8x2x256 .i32)

/-- The counts of the first choices, and of the second ones, block by block. -/
abbrev C1 : Nat → FVec Ideal S8x256 .f32 := cums (rows x1 0)
abbrev C2 : Nat → FVec Ideal S8x256 .f32 := cums (rows x1 1)

/-- The loads of the sixteen rows. -/
theorem loads {e : EltTy} (x : Vec Ideal S8x2x256 e) :
    (View.ld x r1_0 = rows x 0 0 ∧ View.ld x r1_1 = rows x 1 0) ∧ (View.ld x r1_2 = rows x 0 1 ∧ View.ld x r1_3 = rows x 1 1)
    ∧ (View.ld x r1_4 = rows x 0 2 ∧ View.ld x r1_5 = rows x 1 2) ∧ (View.ld x r1_6 = rows x 0 3 ∧ View.ld x r1_7 = rows x 1 3)
    ∧ (View.ld x r1_8 = rows x 0 4 ∧ View.ld x r1_9 = rows x 1 4) ∧ (View.ld x r1_10 = rows x 0 5 ∧ View.ld x r1_11 = rows x 1 5)
    ∧ (View.ld x r1_12 = rows x 0 6 ∧ View.ld x r1_13 = rows x 1 6) ∧ (View.ld x r1_14 = rows x 0 7 ∧ View.ld x r1_15 = rows x 1 7) :=
  ⟨⟨ld_row x 0 0 (by omega) _, ld_row x 0 1 (by omega) _⟩, ⟨ld_row x 1 0 (by omega) _, ld_row x 1 1 (by omega) _⟩,
    ⟨ld_row x 2 0 (by omega) _, ld_row x 2 1 (by omega) _⟩, ⟨ld_row x 3 0 (by omega) _, ld_row x 3 1 (by omega) _⟩,
    ⟨ld_row x 4 0 (by omega) _, ld_row x 4 1 (by omega) _⟩, ⟨ld_row x 5 0 (by omega) _, ld_row x 5 1 (by omega) _⟩,
    ⟨ld_row x 6 0 (by omega) _, ld_row x 6 1 (by omega) _⟩, ⟨ld_row x 7 0 (by omega) _, ld_row x 7 1 (by omega) _⟩⟩

/-- The counts that the pieces share. -/
theorem c1_0 : k1_pay6 (View.ld x1 r1_0) = C1 x1 0 := by rw [(loads x1).1.1]; rfl
theorem c2_0 : k1_pay7 (View.ld x1 r1_1) = C2 x1 0 := by rw [(loads x1).1.2]; rfl
theorem k2_0 : k1_pay101 x0 x1 = carryOf (C2 x1 0) := by unfold k1_pay101; rw [(loads x1).1.2]; rfl
theorem c1_1 : k1_pay105 x0 x1 = C1 x1 1 := by unfold k1_pay105; rw [(loads x1).1.1, (loads x1).2.1.1]; rfl
theorem c2_1 : k1_pay14 (k1_pay98 x0 x1) (k1_pay101 x0 x1) (k1_pay104 x0 x1) = C2 x1 1 := by
  rw [k2_0]; unfold k1_pay98 k1_pay104; rw [(loads x1).2.1.2]; rfl
theorem c1_2 : k1_pay19 (k1_pay98 x0 x1) (k1_pay97 x0 x1) (k1_pay105 x0 x1) (View.ld x1 r1_4) = C1 x1 2 := by
  rw [c1_1, (loads x1).2.2.1.1]; rfl
theorem c2_2 : k1_pay20 (k1_pay98 x0 x1) (k1_pay97 x0 x1) (k1_pay101 x0 x1) (k1_pay104 x0 x1) (View.ld x1 r1_5) = C2 x1 2 := by
  rw [k2_0, (loads x1).2.2.1.2]; unfold k1_pay104; rw [(loads x1).2.1.2]; rfl
theorem c1_3 : k1_pay110 x0 x1 = C1 x1 3 := by
  unfold k1_pay110; rw [c1_1, (loads x1).2.2.1.1, (loads x1).2.2.2.1.1]; rfl
theorem c2_3 : k1_pay111 x0 x1 = C2 x1 3 := by
  unfold k1_pay111 k1_pay104; rw [k2_0, (loads x1).2.1.2, (loads x1).2.2.1.2, (loads x1).2.2.2.1.2]; rfl
theorem c1_4 : k1_pay31 (k1_pay98 x0 x1) (k1_pay97 x0 x1) (k1_pay110 x0 x1) (View.ld x1 r1_8) = C1 x1 4 := by
  rw [c1_3, (loads x1).2.2.2.2.1.1]; rfl
theorem c2_4 : k1_pay32 (k1_pay98 x0 x1) (k1_pay97 x0 x1) (k1_pay111 x0 x1) (View.ld x1 r1_9) = C2 x1 4 := by
  rw [c2_3, (loads x1).2.2.2.2.1.2]; rfl
theorem c1_5 : k1_pay37 (k1_pay98 x0 x1) (k1_pay97 x0 x1) (k1_pay110 x0 x1) (View.ld x1 r1_8) (View.ld x1 r1_10) = C1 x1 5 := by
  rw [c1_3, (loads x1).2.2.2.2.1.1, (loads x1).2.2.2.2.2.1.1]; rfl
theorem c2_5 : k1_pay38 (k1_pay98 x0 x1) (k1_pay97 x0 x1) (k1_pay111 x0 x1) (View.ld x1 r1_9) (View.ld x1 r1_11) = C2 x1 5 := by
  rw [c2_3, (loads x1).2.2.2.2.1.2, (loads x1).2.2.2.2.2.1.2]; rfl
theorem k1_5 : k1_pay116 x0 x1 = carryOf (C1 x1 5) := by
  unfold k1_pay116; rw [c1_3, (loads x1).2.2.2.2.1.1, (loads x1).2.2.2.2.2.1.1]; rfl
theorem k2_5 : k1_pay117 x0 x1 = carryOf (C2 x1 5) := by
  unfold k1_pay117; rw [c2_3, (loads x1).2.2.2.2.1.2, (loads x1).2.2.2.2.2.1.2]; rfl
theorem c1_6 : k1_pay45 (k1_pay98 x0 x1) (k1_pay97 x0 x1) (k1_pay116 x0 x1) (View.ld x1 r1_12) = C1 x1 6 := by
  rw [k1_5, (loads x1).2.2.2.2.2.2.1.1]; rfl
theorem c2_6 : k1_pay46 (k1_pay98 x0 x1) (k1_pay97 x0 x1) (k1_pay117 x0 x1) (View.ld x1 r1_13) = C2 x1 6 := by
  rw [k2_5, (loads x1).2.2.2.2.2.2.1.2]; rfl
theorem c1_7 : k1_pay51 (k1_pay98 x0 x1) (k1_pay97 x0 x1) (k1_pay116 x0 x1) (View.ld x1 r1_12) (View.ld x1 r1_14) = C1 x1 7 := by
  rw [k1_5, (loads x1).2.2.2.2.2.2.1.1, (loads x1).2.2.2.2.2.2.2.1]; rfl
theorem c2_7 : k1_pay52 (k1_pay98 x0 x1) (k1_pay97 x0 x1) (k1_pay117 x0 x1) (View.ld x1 r1_13) (View.ld x1 r1_15) = C2 x1 7 := by
  rw [k2_5, (loads x1).2.2.2.2.2.2.1.2, (loads x1).2.2.2.2.2.2.2.2]; rfl
theorem tot : k1_pay123 x0 x1 = carryOf (C1 x1 7) := by
  unfold k1_pay123; rw [k1_5, (loads x1).2.2.2.2.2.2.1.1, (loads x1).2.2.2.2.2.2.2.1]; rfl

/-- The places of block `b`. -/
abbrev rankP (b : Nat) : IVec S256x8 32 := rankB (rows x1 0 b) (rows x1 1 b) (C1 x1 b) (C2 x1 b) (carryOf (C1 x1 7))
/-- The weights of block `b`. -/
abbrev valP (b : Nat) : FVec Ideal S256x8 .f32 := valB (rows x1 0 b) (rows x1 1 b) (rows x0 0 b) (rows x0 1 b)

/-- The array of places, as its eight pieces. -/
theorem out1_2_eq : out1_2 x0 x1 = View.canon [⟨r1_24, rankP x1 7⟩, ⟨r1_23, rankP x1 6⟩, ⟨r1_22, rankP x1 5⟩, ⟨r1_21, rankP x1 4⟩,
    ⟨r1_20, rankP x1 3⟩, ⟨r1_19, rankP x1 2⟩, ⟨r1_18, rankP x1 1⟩, ⟨r1_17, rankP x1 0⟩] := by
  unfold out1_2
  rw [tot, c1_7, c2_7, c1_6, c2_6, c1_5, c2_5, c1_4, c2_4, c1_3, c2_3, c1_2, c2_2, c2_1, c1_1, c1_0, c2_0]
  unfold k1_pay122 k1_pay121 k1_pay120 k1_pay119 k1_pay118 k1_pay115 k1_pay114 k1_pay113 k1_pay112 k1_pay109 k1_pay108 k1_pay107 k1_pay106 k1_pay104 k1_pay103 k1_pay102 k1_pay100 k1_pay99
  obtain ⟨⟨a0, b0⟩, ⟨a1, b1⟩, ⟨a2, b2⟩, ⟨a3, b3⟩, ⟨a4, b4⟩, ⟨a5, b5⟩, ⟨a6, b6⟩, a7, b7⟩ := loads x1
  rw [a0, b0, a1, b1, a2, b2, a3, b3, a4, b4, a5, b5, a6, b6, a7, b7]
  rfl

/-- The array of weights, as its eight pieces. -/
theorem out1_3_eq : out1_3 x0 x1 = View.canon [⟨r1_24, valP x0 x1 7⟩, ⟨r1_23, valP x0 x1 6⟩, ⟨r1_22, valP x0 x1 5⟩, ⟨r1_21, valP x0 x1 4⟩,
    ⟨r1_20, valP x0 x1 3⟩, ⟨r1_19, valP x0 x1 2⟩, ⟨r1_18, valP x0 x1 1⟩, ⟨r1_17, valP x0 x1 0⟩] := by
  unfold out1_3 k1_pay121 k1_pay120 k1_pay119 k1_pay118 k1_pay115 k1_pay114 k1_pay113 k1_pay112 k1_pay109 k1_pay108 k1_pay107 k1_pay106 k1_pay103 k1_pay102 k1_pay100 k1_pay99
  obtain ⟨⟨a0, b0⟩, ⟨a1, b1⟩, ⟨a2, b2⟩, ⟨a3, b3⟩, ⟨a4, b4⟩, ⟨a5, b5⟩, ⟨a6, b6⟩, a7, b7⟩ := loads x1
  rw [a0, b0, a1, b1, a2, b2, a3, b3, a4, b4, a5, b5, a6, b6, a7, b7]
  obtain ⟨⟨a0, b0⟩, ⟨a1, b1⟩, ⟨a2, b2⟩, ⟨a3, b3⟩, ⟨a4, b4⟩, ⟨a5, b5⟩, ⟨a6, b6⟩, a7, b7⟩ := loads x0
  rw [a0, b0, a1, b1, a2, b2, a3, b3, a4, b4, a5, b5, a6, b6, a7, b7]
  rfl

/-- The column of places taken, as its one piece. -/
theorem out1_4_eq : out1_4 x0 x1 = View.canon [⟨r1_16, usedB (carryOf (C1 x1 7)) (carryOf (C2 x1 7))⟩] := by
  unfold out1_4
  rw [k1_5, k2_5]
  obtain ⟨-, -, -, -, -, -, ⟨a6, b6⟩, a7, b7⟩ := loads x1
  rw [a6, b6, a7, b7]
  rfl

end Cert.KernelIdeal.Rank
end
-- ==== Proof.Gate.lean ====
module
public import proofs.«01_k».proof.Proof.GateBlock
public import proofs.«01_k».proof.Proof.Logits
public import Idealize.ShloMosaic.Lib.Pipeline.Value

/-! What the first launch leaves in its two arrays: for every token the two chosen experts and their logits. -/
@[expose] public section
set_option maxRecDepth 16384
noncomputable section
namespace Cert.KernelIdeal.Gate
open Idealize.ShloMosaic Idealize.ShloMosaic.TcCoe Cert.KernelIdeal.Gen Idealize.ShloMosaic.Pointwise Cert.Router
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The logits of the arrays that the launch finds. -/
def lg (c : Dev nD) : Nat → Fin 8 → EReal :=
  logits (fun n k => (V c main_v0 : Vec Ideal S2048x2048 .f32) (ix2 n k)) fun e k => (V c main_arg1 : Vec Ideal S8x2048 .f32) (ix2 e k)

/-- A token of a block, among all the tokens. -/
abbrev tok (b : Fin 8) (l : Fin 256) : Nat := 256 * b.val + l.val

theorem facts0 (t : Fin cfg0.N) : win0_0.index t 0 = t.val ∧ win0_0.index t 1 = 0 ∧ win0_1.index t 0 = 0 ∧ win0_1.index t 1 = 0
    ∧ win0_2.index t 0 = t.val ∧ win0_2.index t 1 = 0 ∧ win0_2.index t 2 = 0
    ∧ win0_3.index t 0 = t.val ∧ win0_3.index t 1 = 0 ∧ win0_3.index t 2 = 0 := by
  rcases fin_N0 t with rfl | rfl | rfl | rfl | rfl | rfl | rfl | rfl <;> decide +kernel

/-- Block `t` of the tokens' features. -/
theorem x_block (c : Dev nD) (t : Fin cfg0.N) (l : Fin 256) (k : Fin 2048) (n : Fin 2048) (hn : n.val = 256 * t.val + l.val) :
    (iblk0 V c 0 t : Vec Ideal S256x2048 .f32) (ix2 l k) = (V c main_v0 : Vec Ideal S2048x2048 .f32) (ix2 n k) := by
  unfold iblk0
  rw [View.read_apply]
  show V c main_v0 _ = V c main_v0 _
  congr 1
  funext a
  apply Fin.ext
  obtain ⟨h0, h1, -⟩ := facts0 t
  match a with
  | ⟨0, _⟩ => show win0_0.index t 0 * 256 + 1 * l.val = n.val
              rw [h0, hn]; omega
  | ⟨1, _⟩ => show win0_0.index t 1 * 2048 + 1 * k.val = k.val
              rw [h1]; omega

/-- The experts' weights are one block. -/
theorem w_block (c : Dev nD) (t : Fin cfg0.N) (e : Fin 8) (k : Fin 2048) :
    (iblk0 V c 1 t : Vec Ideal S8x2048 .f32) (ix2 e k) = (V c main_arg1 : Vec Ideal S8x2048 .f32) (ix2 e k) := by
  unfold iblk0
  rw [View.read_apply]
  show V c main_arg1 _ = V c main_arg1 _
  congr 1
  funext a
  apply Fin.ext
  obtain ⟨-, -, h0, h1, -⟩ := facts0 t
  match a with
  | ⟨0, _⟩ => show win0_1.index t 0 * 8 + 1 * e.val = e.val
              rw [h0]; omega
  | ⟨1, _⟩ => show win0_1.index t 1 * 2048 + 1 * k.val = k.val
              rw [h1]; omega

/-- The block's logits are the tokens'. -/
theorem row_block (c : Dev nD) (t : Fin cfg0.N) (l : Fin 256) :
    row (iblk0 V c 1 t) (iblk0 V c 0 t) l = lg V c (256 * t.val + l.val) := by
  funext e
  unfold row lg logits
  have hN : t.val < 8 := lt_of_lt_of_eq t.isLt N_0
  refine Finset.sum_congr rfl fun k _ => ?_
  rw [w_block, x_block V c t l k (Fin.ofNat 2048 (256 * t.val + l.val)) (Nat.mod_eq_of_lt (by omega))]

/-- The array of the chosen logits. -/
def metaf (L : Nat → Fin 8 → EReal) : Vec Ideal S8x2x256 .f32 := fun i =>
  L (tok (i 0) (i 2)) (if (i 1).val = 0 then fstE L (tok (i 0) (i 2)) else sndE L (tok (i 0) (i 2)))

/-- The array of the chosen experts. -/
def metai (L : Nat → Fin 8 → EReal) : Vec Ideal S8x2x256 .i32 := fun i =>
  BitVec.ofNat 32 (if (i 1).val = 0 then fstE L (tok (i 0) (i 2)) else sndE L (tok (i 0) (i 2))).val

theorem flushed2 (hL : ∀ c n e, lg V c n e ≠ ⊥) (c : Dev nD) (t : Fin cfg0.N) :
    (dat0 V c).flushed 2 t = ((cfg0.win 2).blk t).view.read (Elt Ideal) (metaf (lg V c)) := by
  show (cfg0.win 2).cut (grid0.coords t) ((dat0 V c).after 2 t) = _
  rw [after0_2]
  unfold out0_2
  rw [View.canon_unit_zero hz3, View.ld_unit_zero hz2, View.ld_unit_zero hz2]
  funext j
  rw [View.read_apply]
  obtain ⟨-, -, -, -, h0, h1, h2, -⟩ := facts0 t
  have hrow : ∀ l e, row (iblk0 V c 1 t) (iblk0 V c 0 t) l e ≠ ⊥ := fun l e => by rw [row_block]; exact hL c _ e
  have key : ∀ (q : Fin 2) (l : Fin 256), k0_pay6 (iblk0 V c 1 t) (iblk0 V c 0 t) (ix3 0 q l)
      = metaf (lg V c) (ix3 (Fin.cast N_0 t) q l) := fun q l => by
    have h := metaf_apply (iblk0 V c 1 t) (iblk0 V c 0 t) hrow l
    rw [row_block] at h
    match q with
    | 0 => exact h.1
    | 1 => exact h.2
  have hj : (j : S1x2x256.Idx) = ix3 0 (j 1) (j 2) := by
    rw [eq_ix3 j]; congr 1; exact Subsingleton.elim (α := Fin 1) _ _
  refine Eq.trans (congrArg _ hj) ((key (j 1) (j 2)).trans ?_)
  show metaf (lg V c) _ = metaf (lg V c) _
  congr 1
  funext a
  apply Fin.ext
  have hj0 : (j 0 : Nat) = 0 := by have : (j 0 : Nat) < 1 := (j 0).isLt; omega
  match a with
  | ⟨0, _⟩ => show t.val = win0_2.index t 0 * 1 + 1 * (j 0 : Nat)
              rw [h0, hj0]; omega
  | ⟨1, _⟩ => show (j 1 : Nat) = win0_2.index t 1 * 2 + 1 * (j 1 : Nat)
              rw [h1]; omega
  | ⟨2, _⟩ => show (j 2 : Nat) = win0_2.index t 2 * 256 + 1 * (j 2 : Nat)
              rw [h2]; omega

theorem flushed3 (c : Dev nD) (t : Fin cfg0.N) :
    (dat0 V c).flushed 3 t = ((cfg0.win 3).blk t).view.read (Elt Ideal) (metai (lg V c)) := by
  show (cfg0.win 3).cut (grid0.coords t) ((dat0 V c).after 3 t) = _
  rw [after0_3]
  unfold out0_3
  rw [View.canon_unit_zero hz3, View.ld_unit_zero hz2, View.ld_unit_zero hz2]
  funext j
  rw [View.read_apply]
  obtain ⟨-, -, -, -, -, -, -, h0, h1, h2⟩ := facts0 t
  have key : ∀ (q : Fin 2) (l : Fin 256), k0_pay7 (iblk0 V c 1 t) (iblk0 V c 0 t) (ix3 0 q l)
      = metai (lg V c) (ix3 (Fin.cast N_0 t) q l) := fun q l => by
    have h := metai_apply (iblk0 V c 1 t) (iblk0 V c 0 t) l
    rw [row_block] at h
    match q with
    | 0 => exact h.1
    | 1 => exact h.2
  have hj : (j : S1x2x256.Idx) = ix3 0 (j 1) (j 2) := by
    rw [eq_ix3 j]; congr 1; exact Subsingleton.elim (α := Fin 1) _ _
  refine Eq.trans (congrArg _ hj) ((key (j 1) (j 2)).trans ?_)
  show metai (lg V c) _ = metai (lg V c) _
  congr 1
  funext a
  apply Fin.ext
  have hj0 : (j 0 : Nat) = 0 := by have : (j 0 : Nat) < 1 := (j 0).isLt; omega
  match a with
  | ⟨0, _⟩ => show t.val = win0_3.index t 0 * 1 + 1 * (j 0 : Nat)
              rw [h0, hj0]; omega
  | ⟨1, _⟩ => show (j 1 : Nat) = win0_3.index t 1 * 2 + 1 * (j 1 : Nat)
              rw [h1]; omega
  | ⟨2, _⟩ => show (j 2 : Nat) = win0_3.index t 2 * 256 + 1 * (j 2 : Nat)
              rw [h2]; omega

/-- Every index of the logits' array lies in the block that its first coordinate names. -/
theorem cover2 (i : S8x2x256.Idx) : ∃ t : Fin cfg0.N, (cfg0.win 2).flush t = true ∧ i ∈ ((cfg0.win 2).blk t).view.set := by
  refine ⟨Fin.cast N_0.symm (i 0), flush0_2 _, ?_⟩
  generalize ht : (Fin.cast N_0.symm (i 0) : Fin cfg0.N) = t
  have hv : t.val = (i 0 : Nat) := by rw [← ht]; rfl
  show i ∈ ((View.whole main_v1_0).slice (win0_2.rect t)).set
  rw [View.set_slice_whole, Rect.mem_set_unit]
  obtain ⟨-, -, -, -, h0, h1, h2, -⟩ := facts0 t
  have i1 : (i 1 : Nat) < 2 := (i 1).isLt
  have i2 : (i 2 : Nat) < 256 := (i 2).isLt
  intro a
  match a with
  | ⟨0, _⟩ => show win0_2.index t 0 * 1 ≤ (i 0 : Nat) ∧ (i 0 : Nat) < win0_2.index t 0 * 1 + 1
              rw [h0]; omega
  | ⟨1, _⟩ => show win0_2.index t 1 * 2 ≤ (i 1 : Nat) ∧ (i 1 : Nat) < win0_2.index t 1 * 2 + 2
              rw [h1]; omega
  | ⟨2, _⟩ => show win0_2.index t 2 * 256 ≤ (i 2 : Nat) ∧ (i 2 : Nat) < win0_2.index t 2 * 256 + 256
              rw [h2]; omega

/-- The same of the index array. -/
theorem cover3 (i : S8x2x256.Idx) : ∃ t : Fin cfg0.N, (cfg0.win 3).flush t = true ∧ i ∈ ((cfg0.win 3).blk t).view.set := by
  refine ⟨Fin.cast N_0.symm (i 0), flush0_3 _, ?_⟩
  generalize ht : (Fin.cast N_0.symm (i 0) : Fin cfg0.N) = t
  have hv : t.val = (i 0 : Nat) := by rw [← ht]; rfl
  show i ∈ ((View.whole main_v1_1).slice (win0_3.rect t)).set
  rw [View.set_slice_whole, Rect.mem_set_unit]
  obtain ⟨-, -, -, -, -, -, -, h0, h1, h2⟩ := facts0 t
  have i1 : (i 1 : Nat) < 2 := (i 1).isLt
  have i2 : (i 2 : Nat) < 256 := (i 2).isLt
  intro a
  match a with
  | ⟨0, _⟩ => show win0_3.index t 0 * 1 ≤ (i 0 : Nat) ∧ (i 0 : Nat) < win0_3.index t 0 * 1 + 1
              rw [h0]; omega
  | ⟨1, _⟩ => show win0_3.index t 1 * 2 ≤ (i 1 : Nat) ∧ (i 1 : Nat) < win0_3.index t 1 * 2 + 2
              rw [h1]; omega
  | ⟨2, _⟩ => show win0_3.index t 2 * 256 ≤ (i 2 : Nat) ∧ (i 2 : Nat) < win0_3.index t 2 * 256 + 256
              rw [h2]; omega

/-- After the launch the first array holds every token's two chosen logits, -/
theorem final2 (hL : ∀ c n e, lg V c n e ≠ ⊥) (c : Dev nD) : (dat0 V c).arrAt 2 cfg0.N = metaf (lg V c) :=
  (dat0 V c).arrAt_eq_of_cover 2 (metaf (lg V c)) (fun t _ => flushed2 V hL c t) cover2

/-- and the second its two chosen experts. -/
theorem final3 (c : Dev nD) : (dat0 V c).arrAt 3 cfg0.N = metai (lg V c) :=
  (dat0 V c).arrAt_eq_of_cover 3 (metai (lg V c)) (fun t _ => flushed3 V c t) cover3

end Cert.KernelIdeal.Gate
end
-- ==== Proof.Rank.lean ====
module
public import proofs.«01_k».proof.Proof.RankPieces
public import proofs.«01_k».proof.Proof.Gate
public import Idealize.ShloMosaic.Lib.Pipeline.Value
public import Idealize.ShloMosaic.Lib.Pipeline.CanonAppend

/-! What the second launch leaves in its three arrays: every token's places and weights, and the places taken. -/
@[expose] public section
set_option maxRecDepth 16384
noncomputable section
namespace Cert.KernelIdeal.Rank
open Idealize.ShloMosaic Idealize.ShloMosaic.TcCoe Cert.KernelIdeal.Gen Idealize.ShloMosaic.Pointwise Cert.Router Cert.KernelIdeal.Gate
open Idealize.ShloMosaic.Pipeline (Dat)

variable (L : Nat → Fin 8 → EReal)

/-- The array of places, the array of weights, and the column of places taken. -/
def rankA : Vec Ideal S2048x8 .i32 := fun i => rank L (i 0).val (i 1)
def valA : Vec Ideal S2048x8 .f32 := fun i => weight L (i 0).val (i 1)
def usedA : Vec Ideal S8x1 .i32 := fun i => usedSpec L (i 0)

theorem irow1 (b : Nat) (hb : b < 8) (l : Fin 256) :
    rows (e := .i32) (metai L) 0 b (ix3 0 0 l) = BitVec.ofNat 32 (fstE L (256 * b + l.val)).val := by
  show BitVec.ofNat 32 (fstE L (256 * (b % 8) + l.val)).val = _
  rw [Nat.mod_eq_of_lt hb]

theorem irow2 (b : Nat) (hb : b < 8) (l : Fin 256) :
    rows (e := .i32) (metai L) 1 b (ix3 0 0 l) = BitVec.ofNat 32 (sndE L (256 * b + l.val)).val := by
  show BitVec.ofNat 32 (sndE L (256 * (b % 8) + l.val)).val = _
  rw [Nat.mod_eq_of_lt hb]

theorem frow1 (b : Nat) (hb : b < 8) (l : Fin 256) :
    rows (e := .f32) (metaf L) 0 b (ix3 0 0 l) = L (256 * b + l.val) (fstE L (256 * b + l.val)) := by
  show L (256 * (b % 8) + l.val) (fstE L (256 * (b % 8) + l.val)) = _
  rw [Nat.mod_eq_of_lt hb]

theorem frow2 (b : Nat) (hb : b < 8) (l : Fin 256) :
    rows (e := .f32) (metaf L) 1 b (ix3 0 0 l) = L (256 * b + l.val) (sndE L (256 * b + l.val)) := by
  show L (256 * (b % 8) + l.val) (sndE L (256 * (b % 8) + l.val)) = _
  rw [Nat.mod_eq_of_lt hb]

/-- Block `b` of the places. -/
theorem rankP_apply (b : Nat) (hb : b < 8) (l : Fin 256) (e : Fin 8) :
    rankP (metai L) b (ix2 l e) = rank L (256 * b + l.val) e := by
  have h1 : ∀ (b : Nat) (l : Fin 256), b < 8 → _ := fun b l h => irow1 L b h l
  have h2 : ∀ (b : Nat) (l : Fin 256), b < 8 → _ := fun b l h => irow2 L b h l
  have e1 := cums_apply h1 b hb (fstE L (256 * b + l.val)) l
  have e2 := cums_apply h2 b hb (sndE L (256 * b + l.val)) l
  rw [cnt_succ, if_pos rfl] at e1 e2
  have b1 := cnt_le (fstE L) (fstE L (256 * b + l.val)) (256 * b + l.val)
  have b2 := cnt_le (sndE L) (sndE L (256 * b + l.val)) (256 * b + l.val)
  have b3 := cnt_le (fstE L) (sndE L (256 * b + l.val)) 2048
  refine (rankB_apply (A := fun q => fstE L (256 * b + q)) (B := fun q => sndE L (256 * b + q)) (irow1 L b hb) (irow2 L b hb) _ _ _ l e
    _ _ _ e1 e2 (total_apply h1 _) (by omega) (by omega)).trans ?_
  unfold rank
  by_cases g1 : fstE L (256 * b + l.val) = e
  · rw [if_pos g1, if_pos g1, g1]
  · rw [if_neg g1, if_neg g1]
    by_cases g2 : sndE L (256 * b + l.val) = e
    · rw [if_pos g2, if_pos g2, g2]
    · rw [if_neg g2, if_neg g2]

/-- Block `b` of the weights. -/
theorem valP_apply (b : Nat) (hb : b < 8) (l : Fin 256) (e : Fin 8) :
    valP (metaf L) (metai L) b (ix2 l e) = weight L (256 * b + l.val) e := by
  refine (valB_apply (A := fun q => fstE L (256 * b + q)) (B := fun q => sndE L (256 * b + q)) (irow1 L b hb) (irow2 L b hb) _ _ l e).trans ?_
  rw [frow1 L b hb, frow2 L b hb]
  rfl

/-- The block's rows in the whole array. -/
theorem emb_block (b : Nat) (inb : ∀ a, (![256 * b, 0] : Fin 2 → Nat) a + S256x8.size a ≤ S2048x8.size a) (l : Fin 256) (e : Fin 8) :
    (((Rect.unit (s := S2048x8) ![256 * b, 0] S256x8.size inb).emb (ix2 l e) : S2048x8.Idx) 0).val = 256 * b + l.val
      ∧ ((Rect.unit (s := S2048x8) ![256 * b, 0] S256x8.size inb).emb (ix2 l e) : S2048x8.Idx) 1 = e := by
  constructor
  · show 256 * b + 1 * l.val = _
    omega
  · apply Fin.ext
    show 0 + 1 * e.val = e.val
    omega

theorem rank_piece (b : Nat) (hb : b < 8) (inb : ∀ a, (![256 * b, 0] : Fin 2 → Nat) a + S256x8.size a ≤ S2048x8.size a)
    (x : S256x8.Idx) : rankP (metai L) b x = rankA L ((Rect.unit (s := S2048x8) ![256 * b, 0] S256x8.size inb).emb x) := by
  obtain ⟨l, e, rfl⟩ : ∃ l e, x = ix2 l e := ⟨_, _, eq_ix2 x⟩
  rw [rankP_apply L b hb]
  unfold rankA
  rw [(emb_block b inb l e).1, (emb_block b inb l e).2]

theorem val_piece (b : Nat) (hb : b < 8) (inb : ∀ a, (![256 * b, 0] : Fin 2 → Nat) a + S256x8.size a ≤ S2048x8.size a)
    (x : S256x8.Idx) : valP (metaf L) (metai L) b x = valA L ((Rect.unit (s := S2048x8) ![256 * b, 0] S256x8.size inb).emb x) := by
  obtain ⟨l, e, rfl⟩ : ∃ l e, x = ix2 l e := ⟨_, _, eq_ix2 x⟩
  rw [valP_apply L b hb]
  unfold valA
  rw [(emb_block b inb l e).1, (emb_block b inb l e).2]

theorem rank_canon : out1_2 (metaf L) (metai L) = rankA L := by
  rw [out1_2_eq]
  funext y
  refine (congrArg (fun l => View.canon l y) (List.append_nil _).symm).trans
    (View.canon_append_of_pieces (rankA L) [] _ ?_ y (cover1_2 _ _ _ _ _ _ _ _ y))
  simp only [List.forall_mem_cons]
  exact ⟨rank_piece L 7 (by omega) _, rank_piece L 6 (by omega) _, rank_piece L 5 (by omega) _, rank_piece L 4 (by omega) _,
    rank_piece L 3 (by omega) _, rank_piece L 2 (by omega) _, rank_piece L 1 (by omega) _, rank_piece L 0 (by omega) _, by simp⟩

theorem val_canon : out1_3 (metaf L) (metai L) = valA L := by
  rw [out1_3_eq]
  funext y
  refine (congrArg (fun l => View.canon l y) (List.append_nil _).symm).trans
    (View.canon_append_of_pieces (valA L) [] _ ?_ y (cover1_3 _ _ _ _ _ _ _ _ y))
  simp only [List.forall_mem_cons]
  exact ⟨val_piece L 7 (by omega) _, val_piece L 6 (by omega) _, val_piece L 5 (by omega) _, val_piece L 4 (by omega) _,
    val_piece L 3 (by omega) _, val_piece L 2 (by omega) _, val_piece L 1 (by omega) _, val_piece L 0 (by omega) _, by simp⟩

theorem used_canon : out1_4 (metaf L) (metai L) = usedA L := by
  rw [out1_4_eq, View.canon_unit_zero hz2]
  funext y
  have hy : y = ix2 (y 0) 0 := by
    refine (eq_ix2 y).trans ?_
    congr 1
    exact Subsingleton.elim (α := Fin 1) _ _
  rw [hy]
  exact usedB_apply _ _ (y 0) _ _ (total_apply (fun b l h => irow1 L b h l) _) (total_apply (fun b l h => irow2 L b h l) _)

/-! The launch has one point, whose blocks are the whole arrays. -/

variable (V : (c : Dev nD) → (b : Ref sig .tc) → Buf (Elt Ideal) ((c : Thread nD τ).loc b))

theorem in0 (c : Dev nD) (t : Fin cfg1.N) : (iblk1 V c 0 t : Vec Ideal S8x2x256 .f32) = (V c main_v1_0 : Vec Ideal S8x2x256 .f32) := by
  unfold iblk1
  funext j
  rw [View.read_apply]
  show V c main_v1_0 _ = V c main_v1_0 _
  congr 1
  funext a
  apply Fin.ext
  match a with
  | ⟨0, _⟩ => show 0 * 8 + 1 * (j 0 : Nat) = (j 0 : Nat); omega
  | ⟨1, _⟩ => show 0 * 2 + 1 * (j 1 : Nat) = (j 1 : Nat); omega
  | ⟨2, _⟩ => show 0 * 256 + 1 * (j 2 : Nat) = (j 2 : Nat); omega

theorem in1 (c : Dev nD) (t : Fin cfg1.N) : (iblk1 V c 1 t : Vec Ideal S8x2x256 .i32) = (V c main_v1_1 : Vec Ideal S8x2x256 .i32) := by
  unfold iblk1
  funext j
  rw [View.read_apply]
  show V c main_v1_1 _ = V c main_v1_1 _
  congr 1
  funext a
  apply Fin.ext
  match a with
  | ⟨0, _⟩ => show 0 * 8 + 1 * (j 0 : Nat) = (j 0 : Nat); omega
  | ⟨1, _⟩ => show 0 * 2 + 1 * (j 1 : Nat) = (j 1 : Nat); omega
  | ⟨2, _⟩ => show 0 * 256 + 1 * (j 2 : Nat) = (j 2 : Nat); omega

variable (c : Dev nD) (h0 : (V c main_v1_0 : Vec Ideal S8x2x256 .f32) = metaf L) (h1 : (V c main_v1_1 : Vec Ideal S8x2x256 .i32) = metai L)

include h0 h1 in
/-- The places' array after the launch, when it started from the first launch's arrays; -/
theorem final2 : (dat1 V c).arrAt 2 cfg1.N = rankA L := by
  refine (dat1 V c).arrAt_eq_of_cover 2 (rankA L) (fun t _ => ?_) (fun i => ⟨t1_0, flush1_2 _, ?_⟩)
  · show (cfg1.win 2).cut (grid1.coords t) ((dat1 V c).after 2 t) = _
    rw [after1_2, in0, in1, h0, h1, rank_canon]
    funext j
    rw [View.read_apply]
    show rankA L _ = rankA L _
    congr 1
    funext a
    apply Fin.ext
    match a with
    | ⟨0, _⟩ => show (j 0 : Nat) = 0 * 2048 + 1 * (j 0 : Nat); omega
    | ⟨1, _⟩ => show (j 1 : Nat) = 0 * 8 + 1 * (j 1 : Nat); omega
  · show i ∈ ((View.whole main_v2_0).slice (win1_2.rect t1_0)).set
    rw [View.set_slice_whole, Rect.mem_set_unit]
    have i0 : (i 0 : Nat) < 2048 := (i 0).isLt
    have i1 : (i 1 : Nat) < 8 := (i 1).isLt
    intro a
    match a with
    | ⟨0, _⟩ => show 0 * 2048 ≤ (i 0 : Nat) ∧ (i 0 : Nat) < 0 * 2048 + 2048; omega
    | ⟨1, _⟩ => show 0 * 8 ≤ (i 1 : Nat) ∧ (i 1 : Nat) < 0 * 8 + 8; omega

include h0 h1 in
/-- the weights' array; -/
theorem final3 : (dat1 V c).arrAt 3 cfg1.N = valA L := by
  refine (dat1 V c).arrAt_eq_of_cover 3 (valA L) (fun t _ => ?_) (fun i => ⟨t1_0, flush1_3 _, ?_⟩)
  · show (cfg1.win 3).cut (grid1.coords t) ((dat1 V c).after 3 t) = _
    rw [after1_3, in0, in1, h0, h1, val_canon]
    funext j
    rw [View.read_apply]
    show valA L _ = valA L _
    congr 1
    funext a
    apply Fin.ext
    match a with
    | ⟨0, _⟩ => show (j 0 : Nat) = 0 * 2048 + 1 * (j 0 : Nat); omega
    | ⟨1, _⟩ => show (j 1 : Nat) = 0 * 8 + 1 * (j 1 : Nat); omega
  · show i ∈ ((View.whole main_v2_1).slice (win1_3.rect t1_0)).set
    rw [View.set_slice_whole, Rect.mem_set_unit]
    have i0 : (i 0 : Nat) < 2048 := (i 0).isLt
    have i1 : (i 1 : Nat) < 8 := (i 1).isLt
    intro a
    match a with
    | ⟨0, _⟩ => show 0 * 2048 ≤ (i 0 : Nat) ∧ (i 0 : Nat) < 0 * 2048 + 2048; omega
    | ⟨1, _⟩ => show 0 * 8 ≤ (i 1 : Nat) ∧ (i 1 : Nat) < 0 * 8 + 8; omega

include h0 h1 in
/-- and the column of places taken. -/
theorem final4 : (dat1 V c).arrAt 4 cfg1.N = usedA L := by
  refine (dat1 V c).arrAt_eq_of_cover 4 (usedA L) (fun t _ => ?_) (fun i => ⟨t1_0, flush1_4 _, ?_⟩)
  · show (cfg1.win 4).cut (grid1.coords t) ((dat1 V c).after 4 t) = _
    rw [after1_4, in0, in1, h0, h1, used_canon]
    funext j
    rw [View.read_apply]
    show usedA L _ = usedA L _
    congr 1
    funext a
    apply Fin.ext
    match a with
    | ⟨0, _⟩ => show (j 0 : Nat) = 0 * 8 + 1 * (j 0 : Nat); omega
    | ⟨1, _⟩ => show (j 1 : Nat) = 0 * 1 + 1 * (j 1 : Nat); omega
  · show i ∈ ((View.whole main_v2_2).slice (win1_4.rect t1_0)).set
    rw [View.set_slice_whole, Rect.mem_set_unit]
    have i0 : (i 0 : Nat) < 8 := (i 0).isLt
    have i1 : (i 1 : Nat) < 1 := (i 1).isLt
    intro a
    match a with
    | ⟨0, _⟩ => show 0 * 8 ≤ (i 0 : Nat) ∧ (i 0 : Nat) < 0 * 8 + 8; omega
    | ⟨1, _⟩ => show 0 * 1 ≤ (i 1 : Nat) ∧ (i 1 : Nat) < 0 * 1 + 1; omega

end Cert.KernelIdeal.Rank
end
-- ==== Proof.Expand.lean ====
module
public import proofs.«01_k».proof.Proof.Rank

/-! What the third launch leaves in its two arrays: the combine weights, and the marks of those that are not 0. -/
@[expose] public section
set_option maxRecDepth 16384
noncomputable section
namespace Cert.KernelIdeal.Expand
open Idealize.ShloMosaic Idealize.ShloMosaic.TcCoe Cert.KernelIdeal.Gen Idealize.ShloMosaic.Pointwise Cert.Router Cert.KernelIdeal.Gate
open Cert.KernelIdeal.Rank (rankA valA select_bool)
open Idealize.ShloMosaic.Pipeline (Dat)

/-- One weight of a block: the token's weight for the expert, at the place it holds there. -/
theorem cb_apply (x : Vec Ideal S256x8 .i32) (v : Vec Ideal S256x8 .f32) (l : Fin 256) (e : Fin 8) (c : Fin 640) :
    k2_pay3 x v (ix3 l e c) = if x (ix2 l e) = BitVec.ofNat 32 c.val then v (ix2 l e) else 0 := by
  have h : k2_pay3 x v (ix3 l e c)
      = Scalar.select (IntOp.cmpi CmpIPredicate.eq (x (ix2 l e)) (BitVec.ofNat 32 c.val)) (v (ix2 l e)) 0 := by
    pointwise [k2_pay3, k2_pay2, k2_pay1]
  rw [h]
  exact select_bool (x (ix2 l e) = BitVec.ofNat 32 c.val) _ _

/-- The mark of one weight: the place is the token's, and the weight is not 0. -/
theorem sec_apply (x : Vec Ideal S256x8 .i32) (v : Vec Ideal S256x8 .f32) (l : Fin 256) (e : Fin 8) (c : Fin 640) :
    k2_pay4 x v (ix3 l e c)
      = BitVec.setWidth 32 (BitVec.ofBool (decide ((if x (ix2 l e) = BitVec.ofNat 32 c.val then v (ix2 l e) else 0) ≠ 0))) := by
  have h : k2_pay4 x v (ix3 l e c)
      = BitVec.setWidth 32 (IntOp.andi (IntOp.cmpi .eq (x (ix2 l e)) (BitVec.ofNat 32 c.val)) (BitVec.ofBool (decide (v (ix2 l e) ≠ 0)))) := by
    pointwise [k2_pay4, k2_pay2, k2_pay1]
  rw [h]
  congr 1
  show IntOp.andi (BitVec.ofBool (decide (x (ix2 l e) = BitVec.ofNat 32 c.val))) _ = _
  by_cases g : x (ix2 l e) = BitVec.ofNat 32 c.val
  · rw [if_pos g, decide_eq_true g]
    generalize decide (v (ix2 l e) ≠ 0) = b
    cases b <;> rfl
  · rw [if_neg g, decide_eq_false g]
    generalize decide (v (ix2 l e) ≠ 0) = b
    cases b <;> simp [IntOp.andi]

variable (L : Nat → Fin 8 → EReal)

/-- The array of weights, and the array of their marks, as words. -/
def cbA : Vec Ideal S2048x8x640 .f32 := fun i => cbSpec L (i 0).val (i 1) (i 2).val
def secA : Vec Ideal S2048x8x640 .i32 := fun i => BitVec.setWidth 32 (secSpec L (i 0).val (i 1) (i 2).val)

variable (V : (c : Dev nD) → (b : Ref sig .tc) → Buf (Elt Ideal) ((c : Thread nD τ).loc b))

theorem facts2 (t : Fin cfg2.N) : win2_0.index t 0 = t.val ∧ win2_0.index t 1 = 0 ∧ win2_1.index t 0 = t.val ∧ win2_1.index t 1 = 0
    ∧ win2_2.index t 0 = t.val ∧ win2_2.index t 1 = 0 ∧ win2_2.index t 2 = 0
    ∧ win2_3.index t 0 = t.val ∧ win2_3.index t 1 = 0 ∧ win2_3.index t 2 = 0 := by
  rcases fin_N2 t with rfl | rfl | rfl | rfl | rfl | rfl | rfl | rfl <;> decide +kernel

/-- Block `t` of the places. -/
theorem rank_block (c : Dev nD) (h0 : (V c main_v2_0 : Vec Ideal S2048x8 .i32) = rankA L) (t : Fin cfg2.N) (l : Fin 256) (e : Fin 8) :
    (iblk2 V c 0 t : Vec Ideal S256x8 .i32) (ix2 l e) = rank L (256 * t.val + l.val) e := by
  unfold iblk2
  rw [View.read_apply]
  obtain ⟨w0, w1, -⟩ := facts2 t
  have hN : t.val < 8 := lt_of_lt_of_eq t.isLt N_2
  show (V c main_v2_0 : Vec Ideal S2048x8 .i32) _ = rankA L (ix2 ⟨256 * t.val + l.val, by omega⟩ e)
  rw [h0]
  congr 1
  funext a
  apply Fin.ext
  match a with
  | ⟨0, _⟩ => show win2_0.index t 0 * 256 + 1 * l.val = 256 * t.val + l.val
              rw [w0]; omega
  | ⟨1, _⟩ => show win2_0.index t 1 * 8 + 1 * e.val = e.val
              rw [w1]; omega

/-- Block `t` of the weights. -/
theorem val_block (c : Dev nD) (h1 : (V c main_v2_1 : Vec Ideal S2048x8 .f32) = valA L) (t : Fin cfg2.N) (l : Fin 256) (e : Fin 8) :
    (iblk2 V c 1 t : Vec Ideal S256x8 .f32) (ix2 l e) = weight L (256 * t.val + l.val) e := by
  unfold iblk2
  rw [View.read_apply]
  obtain ⟨-, -, w0, w1, -⟩ := facts2 t
  have hN : t.val < 8 := lt_of_lt_of_eq t.isLt N_2
  show (V c main_v2_1 : Vec Ideal S2048x8 .f32) _ = valA L (ix2 ⟨256 * t.val + l.val, by omega⟩ e)
  rw [h1]
  congr 1
  funext a
  apply Fin.ext
  match a with
  | ⟨0, _⟩ => show win2_1.index t 0 * 256 + 1 * l.val = 256 * t.val + l.val
              rw [w0]; omega
  | ⟨1, _⟩ => show win2_1.index t 1 * 8 + 1 * e.val = e.val
              rw [w1]; omega

/-- Where a block of the third launch lies in the whole array. -/
theorem whole_ix (t : Fin cfg2.N) (l : Fin 256) (e : Fin 8) (k : Fin 640) (i : S2048x8x640.Idx)
    (h0 : (i 0 : Nat) = t.val * 256 + 1 * l.val) (h1 : (i 1 : Nat) = 0 * 8 + 1 * e.val) (h2 : (i 2 : Nat) = 0 * 640 + 1 * k.val) :
    cbA L i = cbSpec L (256 * t.val + l.val) e k.val ∧ secA L i = BitVec.setWidth 32 (secSpec L (256 * t.val + l.val) e k.val) := by
  have e0 : (i 0 : Nat) = 256 * t.val + l.val := by omega
  have e1 : i 1 = e := Fin.ext (by omega)
  have e2 : (i 2 : Nat) = k.val := by omega
  unfold cbA secA
  rw [e0, e1, e2]
  exact ⟨rfl, rfl⟩

variable (c : Dev nD) (h0 : (V c main_v2_0 : Vec Ideal S2048x8 .i32) = rankA L) (h1 : (V c main_v2_1 : Vec Ideal S2048x8 .f32) = valA L)

include h0 h1 in
theorem flushed2 (t : Fin cfg2.N) : (dat2 V c).flushed 2 t = ((cfg2.win 2).blk t).view.read (Elt Ideal) (cbA L) := by
  show (cfg2.win 2).cut (grid2.coords t) ((dat2 V c).after 2 t) = _
  rw [after2_2]
  unfold out2_2
  rw [View.canon_unit_zero hz3, View.ld_unit_zero hz2, View.ld_unit_zero hz2]
  funext j
  rw [View.read_apply]
  obtain ⟨-, -, -, -, w0, w1, w2, -⟩ := facts2 t
  obtain ⟨l, e, k, rfl⟩ : ∃ (l : Fin 256) (e : Fin 8) (k : Fin 640), (j : S256x8x640.Idx) = ix3 l e k := ⟨_, _, _, eq_ix3 j⟩
  refine (cb_apply _ _ l e k).trans ?_
  rw [rank_block L V c h0, val_block L V c h1]
  refine ((whole_ix L t l e k _ ?_ ?_ ?_).1).symm
  · show win2_2.index t 0 * 256 + 1 * l.val = _
    rw [w0]
  · show win2_2.index t 1 * 8 + 1 * e.val = _
    rw [w1]
  · show win2_2.index t 2 * 640 + 1 * k.val = _
    rw [w2]

include h0 h1 in
theorem flushed3 (t : Fin cfg2.N) : (dat2 V c).flushed 3 t = ((cfg2.win 3).blk t).view.read (Elt Ideal) (secA L) := by
  show (cfg2.win 3).cut (grid2.coords t) ((dat2 V c).after 3 t) = _
  rw [after2_3]
  unfold out2_3
  rw [View.canon_unit_zero hz3, View.ld_unit_zero hz2, View.ld_unit_zero hz2]
  funext j
  rw [View.read_apply]
  obtain ⟨-, -, -, -, -, -, -, w0, w1, w2⟩ := facts2 t
  obtain ⟨l, e, k, rfl⟩ : ∃ (l : Fin 256) (e : Fin 8) (k : Fin 640), (j : S256x8x640.Idx) = ix3 l e k := ⟨_, _, _, eq_ix3 j⟩
  refine (sec_apply _ _ l e k).trans ?_
  rw [rank_block L V c h0, val_block L V c h1]
  refine ((whole_ix L t l e k _ ?_ ?_ ?_).2).symm
  · show win2_3.index t 0 * 256 + 1 * l.val = _
    rw [w0]
  · show win2_3.index t 1 * 8 + 1 * e.val = _
    rw [w1]
  · show win2_3.index t 2 * 640 + 1 * k.val = _
    rw [w2]

/-- The point whose blocks hold an index. -/
def point (i : S2048x8x640.Idx) : Fin cfg2.N :=
  Fin.cast N_2.symm ⟨(i 0 : Nat) / 256, by have : (i 0 : Nat) < 2048 := (i 0).isLt; omega⟩

theorem cover2 (i : S2048x8x640.Idx) : i ∈ ((cfg2.win 2).blk (point i)).view.set := by
  have hv : (point i).val = (i 0 : Nat) / 256 := rfl
  generalize point i = t at hv
  show i ∈ ((View.whole main_v3_0).slice (win2_2.rect t)).set
  rw [View.set_slice_whole, Rect.mem_set_unit]
  obtain ⟨-, -, -, -, w0, w1, w2, -⟩ := facts2 t
  have i1 : (i 1 : Nat) < 8 := (i 1).isLt
  have i2 : (i 2 : Nat) < 640 := (i 2).isLt
  intro a
  match a with
  | ⟨0, _⟩ => show win2_2.index t 0 * 256 ≤ (i 0 : Nat) ∧ (i 0 : Nat) < win2_2.index t 0 * 256 + 256
              rw [w0]; omega
  | ⟨1, _⟩ => show win2_2.index t 1 * 8 ≤ (i 1 : Nat) ∧ (i 1 : Nat) < win2_2.index t 1 * 8 + 8
              rw [w1]; omega
  | ⟨2, _⟩ => show win2_2.index t 2 * 640 ≤ (i 2 : Nat) ∧ (i 2 : Nat) < win2_2.index t 2 * 640 + 640
              rw [w2]; omega

theorem cover3 (i : S2048x8x640.Idx) : i ∈ ((cfg2.win 3).blk (point i)).view.set := by
  have hv : (point i).val = (i 0 : Nat) / 256 := rfl
  generalize point i = t at hv
  show i ∈ ((View.whole main_v3_1).slice (win2_3.rect t)).set
  rw [View.set_slice_whole, Rect.mem_set_unit]
  obtain ⟨-, -, -, -, -, -, -, w0, w1, w2⟩ := facts2 t
  have i1 : (i 1 : Nat) < 8 := (i 1).isLt
  have i2 : (i 2 : Nat) < 640 := (i 2).isLt
  intro a
  match a with
  | ⟨0, _⟩ => show win2_3.index t 0 * 256 ≤ (i 0 : Nat) ∧ (i 0 : Nat) < win2_3.index t 0 * 256 + 256
              rw [w0]; omega
  | ⟨1, _⟩ => show win2_3.index t 1 * 8 ≤ (i 1 : Nat) ∧ (i 1 : Nat) < win2_3.index t 1 * 8 + 8
              rw [w1]; omega
  | ⟨2, _⟩ => show win2_3.index t 2 * 640 ≤ (i 2 : Nat) ∧ (i 2 : Nat) < win2_3.index t 2 * 640 + 640
              rw [w2]; omega

include h0 h1 in
/-- After the launch, started from the second launch's arrays, the first array holds the combine weights -/
theorem final2 : (dat2 V c).arrAt 2 cfg2.N = cbA L :=
  (dat2 V c).arrAt_eq_of_cover 2 (cbA L) (fun t _ => flushed2 L V c h0 h1 t) fun i => ⟨point i, flush2_2 _, cover2 i⟩

include h0 h1 in
/-- and the second the words of their marks. -/
theorem final3 : (dat2 V c).arrAt 3 cfg2.N = secA L :=
  (dat2 V c).arrAt_eq_of_cover 3 (secA L) (fun t _ => flushed3 L V c h0 h1 t) fun i => ⟨point i, flush2_3 _, cover3 i⟩

end Cert.KernelIdeal.Expand
end
-- ==== Proof.KernelRun.lean ====
module
public import proofs.«01_k».proof.Proof.Expand
public import Idealize.ShloMosaic.Lib.StableHlo.RunRead

/-! The kernel's run: what its three results hold when it ends. -/
@[expose] public section
set_option maxRecDepth 16384
noncomputable section
namespace Cert.KernelIdeal.KernelRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Router Idealize.ShloMosaic.Pointwise

local notation "𝕄" => MT nD τ sig Unit (Elt Ideal) ℕ (UR sig nD τ) ℕ

variable (m : (ℓ : Loc nD τ sig) → Buf (Elt Ideal) ℓ) (ρ : Dev nD → PrngReg)

/-! The run leaves every array at the last boundary's contents: the generated launch with this reading of its last state. -/

set_option backward.isDefEq.respectTransparency.types false in
theorem run : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-! The boundaries' contents, one launch after another. -/

/-- The logits of the arguments. -/
def lgs (c : Dev nD) : Nat → Fin 8 → EReal :=
  logits (fun n k => (m ((c : Thread nD τ).loc main_arg0) : Vec Ideal S1x2048x2048 .f32) (ix3 0 n k))
    fun e k => (m ((c : Thread nD τ).loc main_arg1) : Vec Ideal S8x2048 .f32) (ix2 e k)

theorem w1_v0 (c : Dev nD) : (W1 m ρ c (Proc.devRef .tc main_v0) : Vec Ideal S2048x2048 .f32)
    = shapeCast S2048x2048 (m ((c : Thread nD τ).loc main_arg0) : Vec Ideal S1x2048x2048 .f32) shapeCasts_S1x2048x2048_S2048x2048 := by
  show StableHlo.after hostOps0 (W0 m ρ c) (Proc.devRef .tc main_v0) = _
  after_results
  rfl

theorem cast_tokens (x : Vec Ideal S1x2048x2048 .f32) (n k : Fin 2048) :
    (shapeCast S2048x2048 x shapeCasts_S1x2048x2048_S2048x2048 : Vec Ideal S2048x2048 .f32) (ix2 n k) = x (ix3 0 n k) := by
  pointwise []

theorem lg_eq (c : Dev nD) : Gate.lg (V1 m ρ) c = lgs m c := by
  unfold Gate.lg lgs
  congr 1
  · funext n k
    exact (congrFun (w1_v0 m ρ c) _).trans (cast_tokens _ n k)

variable (hL : ∀ c n e, lgs m c n e ≠ ⊥)

include hL in
theorem v2_f (c : Dev nD) : (V2 m ρ c main_v1_0 : Vec Ideal S8x2x256 .f32) = Gate.metaf (lgs m c) :=
  (W2_arr m ρ c 2).trans ((Gate.final2 (V1 m ρ) (fun c n e => by rw [lg_eq]; exact hL c n e) c).trans (by rw [lg_eq]))

theorem v2_i (c : Dev nD) : (V2 m ρ c main_v1_1 : Vec Ideal S8x2x256 .i32) = Gate.metai (lgs m c) :=
  (W2_arr m ρ c 3).trans ((Gate.final3 (V1 m ρ) c).trans (by rw [lg_eq]))

include hL in
theorem v3_rank (c : Dev nD) : (V3 m ρ c main_v2_0 : Vec Ideal S2048x8 .i32) = Rank.rankA (lgs m c) :=
  (W3_arr m ρ c 2).trans (Rank.final2 _ (V2 m ρ) c (v2_f m ρ hL c) (v2_i m ρ c))

include hL in
theorem v3_val (c : Dev nD) : (V3 m ρ c main_v2_1 : Vec Ideal S2048x8 .f32) = Rank.valA (lgs m c) :=
  (W3_arr m ρ c 3).trans (Rank.final3 _ (V2 m ρ) c (v2_f m ρ hL c) (v2_i m ρ c))

include hL in
theorem v4_used (c : Dev nD) : (V4 m ρ c main_v2_2 : Vec Ideal S8x1 .i32) = Rank.usedA (lgs m c) :=
  (W4_of_ne m ρ c main_v2_2 (by decide)).trans ((W3_arr m ρ c 4).trans (Rank.final4 _ (V2 m ρ) c (v2_f m ρ hL c) (v2_i m ρ c)))

include hL in
theorem v4_cb (c : Dev nD) : (V4 m ρ c main_v3_0 : Vec Ideal S2048x8x640 .f32) = Expand.cbA (lgs m c) :=
  (W4_arr m ρ c 2).trans (Expand.final2 _ (V3 m ρ) c (v3_rank m ρ hL c) (v3_val m ρ hL c))

include hL in
theorem v4_sec (c : Dev nD) : (V4 m ρ c main_v3_1 : Vec Ideal S2048x8x640 .i32) = Expand.secA (lgs m c) :=
  (W4_arr m ρ c 3).trans (Expand.final3 _ (V3 m ρ) c (v3_rank m ρ hL c) (v3_val m ρ hL c))

/-! The results. -/

theorem w5_v7 (c : Dev nD) : (W5 m ρ c (Proc.devRef .tc main_v7) : Vec Ideal S8 .i32)
    = shapeCast S8 (V4 m ρ c main_v2_2 : Vec Ideal S8x1 .i32) shapeCasts_S8x1_S8 := by
  show StableHlo.after hostOps3 (W4 m ρ c) (Proc.devRef .tc main_v7) = _
  after_results
  rfl

theorem w5_v6 (c : Dev nD) : (W5 m ρ c (Proc.devRef .tc main_v6) : Vec Ideal S2048x8x640 .i1)
    = cmpi .ne (V4 m ρ c main_v3_1 : Vec Ideal S2048x8x640 .i32) (broadcastInDim S2048x8x640 ![] bcast_S_S2048x8x640 (constantI S_ 32 0#32)) := by
  show StableHlo.after hostOps3 (W4 m ρ c) (Proc.devRef .tc main_v6) = _
  after_results
  rfl

theorem cast_used (x : Vec Ideal S8x1 .i32) (e : Fin 8) :
    (shapeCast S8 x shapeCasts_S8x1_S8 : Vec Ideal S8 .i32) (ix1 e) = x (ix2 e 0) := by
  pointwise []

theorem mark_word (b : BitVec 1) : IntOp.cmpi .ne (BitVec.setWidth 32 b) 0#32 = b := by
  revert b; decide

/-- The places taken of every expert, -/
def used (L : Nat → Fin 8 → EReal) : Vec Ideal S8 .i32 := fun i => usedSpec L (i 0)
/-- and the marks of the weights that are not 0. -/
def marks (L : Nat → Fin 8 → EReal) : Vec Ideal S2048x8x640 .i1 := fun i => secSpec L (i 0).val (i 1) (i 2).val

include hL in
theorem res_used (c : Dev nD) : (W5 m ρ c (Proc.devRef .tc main_v7) : Vec Ideal S8 .i32) = used (lgs m c) := by
  rw [w5_v7, v4_used m ρ hL]
  funext i
  rw [eq_ix1 i]
  exact cast_used _ _

include hL in
theorem res_marks (c : Dev nD) : (W5 m ρ c (Proc.devRef .tc main_v6) : Vec Ideal S2048x8x640 .i1) = marks (lgs m c) := by
  rw [w5_v6, v4_sec m ρ hL]
  funext i
  exact mark_word _

include hL in
/-- The kernel ends with the three results at their closed forms and its arguments as launched. -/
theorem values : θ_run defs (onTc (τ := τ) (main (F := Ideal))) ⟨m, fun _ => 0, ρ⟩ (fun r => ∀ c : Dev nD,
      r.2.mem ((c.tc : Thread nD τ).loc main_v7) = used (lgs m c)
      ∧ r.2.mem ((c.tc : Thread nD τ).loc main_v3_0) = Expand.cbA (lgs m c)
      ∧ r.2.mem ((c.tc : Thread nD τ).loc main_v6) = marks (lgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v7 (by decide))).trans (res_used m ρ hL c),
     (h c _ (mem_uc main_v3_0 (by decide))).trans ((W5_of m ρ c main_v3_0 (by decide)).trans (v4_cb m ρ hL c)),
     (h c _ (mem_uc main_v6 (by decide))).trans (res_marks m ρ hL c),
     (h c _ (mem_uc main_arg0 (by decide))).trans (W5_main_arg0 m ρ c),
     (h c _ (mem_uc main_arg1 (by decide))).trans (W5_main_arg1 m ρ c)⟩) (run m ρ)

end Cert.KernelIdeal.KernelRun
end
-- ==== Proof.RefChoice.lean ====
module
public import proofs.«01_k».proof.Proof.Choice
public import proofs.«01_k».proof.Proof.Logits
public import proofs.«01_k».proof.Proof.Spec
public import proofs.«01_k».proof.Proof.Gen.ReferenceIdeal.Read
public import Idealize.ShloMosaic.Lib.Pointwise

/-! What the reference's top-2 selects: for every token the two chosen experts and their logits. -/
@[expose] public section
set_option maxRecDepth 16384
noncomputable section
namespace Cert.ReferenceIdeal.Choice
open Idealize.ShloMosaic Cert.ReferenceIdeal Cert.ReferenceIdeal.Read Idealize.ShloMosaic.Pointwise Cert.Router

/-- The order of two extended reals as the selection's comparison reads it. -/
theorem gt_word (a b : EReal) : (FloatOps.cmpfTotal (F := Ideal) (φ := .f32) .gt a b == 1#1) = decide (b < a) := by
  rw [Ideal.cmpfTotal_def]
  show (BitVec.ofBool (decide (b < a)) == 1#1) = _
  by_cases h : b < a
  · rw [decide_eq_true h]; rfl
  · rw [decide_eq_false h]; rfl

/-- The experts' axis of the logits. -/
abbrev lane : Fin S1x2048x8.rank := ⟨2, by decide⟩

/-- An index of the logits with its expert replaced. -/
theorem along_ix (n : Fin 2048) (e k : Fin 8) :
    Shape.Idx.along (s := S1x2048x8) (ix3 0 n e) lane k = ix3 0 n k := by
  funext a
  match a with
  | ⟨0, _⟩ => rfl
  | ⟨1, _⟩ => rfl
  | ⟨2, _⟩ => rfl

/-- The sort at an index: the entry, and its expert, that the order of the token's logits puts there. -/
theorem sort_at (x : Vec Ideal S1x2048x8 .f32) (y : IVec S1x2048x8 32) (n : Fin 2048) (e : Fin 8) :
    (Host.sort2 S1x2048x8 2 (fun l r => FloatOps.cmpfTotal (F := Ideal) (φ := .f32) .gt l.1 r.1) x y).1 (ix3 0 n e)
        = x (ix3 0 n (sortedFrom (fun k k' : Fin 8 => decide (x (ix3 0 n k') < x (ix3 0 n k))) e))
      ∧ (Host.sort2 S1x2048x8 2 (fun l r => FloatOps.cmpfTotal (F := Ideal) (φ := .f32) .gt l.1 r.1) x y).2 (ix3 0 n e)
        = y (ix3 0 n (sortedFrom (fun k k' : Fin 8 => decide (x (ix3 0 n k') < x (ix3 0 n k))) e)) := by
  have hb : (fun k k' : Fin 8 => FloatOps.cmpfTotal (F := Ideal) (φ := .f32) .gt
        (x (Shape.Idx.along (s := S1x2048x8) (ix3 0 n e) lane k)) (x (Shape.Idx.along (s := S1x2048x8) (ix3 0 n e) lane k')) == 1#1)
      = fun k k' : Fin 8 => decide (x (ix3 0 n k') < x (ix3 0 n k)) := by
    funext k k'
    rw [along_ix, along_ix]
    exact gt_word _ _
  unfold Host.sort2
  rw [dif_pos (show 2 < S1x2048x8.rank by decide)]
  constructor
  · show x (Shape.Idx.along (s := S1x2048x8) (ix3 0 n e) lane (sortedFrom (fun k k' : Fin 8 => FloatOps.cmpfTotal (F := Ideal) (φ := .f32) .gt
        (x (Shape.Idx.along (s := S1x2048x8) (ix3 0 n e) lane k)) (x (Shape.Idx.along (s := S1x2048x8) (ix3 0 n e) lane k')) == 1#1) e)) = _
    rw [hb]
    exact congrArg x (along_ix _ _ _)
  · show y (Shape.Idx.along (s := S1x2048x8) (ix3 0 n e) lane (sortedFrom (fun k k' : Fin 8 => FloatOps.cmpfTotal (F := Ideal) (φ := .f32) .gt
        (x (Shape.Idx.along (s := S1x2048x8) (ix3 0 n e) lane k)) (x (Shape.Idx.along (s := S1x2048x8) (ix3 0 n e) lane k')) == 1#1) e)) = _
    rw [hb]
    exact congrArg y (along_ix _ _ _)

/-- The experts' numbers, one per logit. -/
def numbers : IVec S1x2048x8 32 := fun i => if hd : 2 < S1x2048x8.rank then iotaInDim S1x2048x8 32 ⟨2, hd⟩ i else 0#32

/-- The logits and the experts' numbers, sorted by the logits. -/
abbrev sorted (x : Vec Ideal S1x2048x8 .f32) : Vec Ideal S1x2048x8 .f32 × IVec S1x2048x8 32 :=
  Host.sort2 S1x2048x8 2 (fun l r => FloatOps.cmpfTotal (F := Ideal) (φ := .f32) .gt l.1 r.1) x numbers

/-- The first two positions of the axis, kept. -/
theorem cut_at {α : Type} (x : S1x2048x8.Idx → α) (n : Fin 2048) (q : Fin 2) (e : Fin 8) (he : e.val = q.val) :
    extractStridedSlice S1x2048x2 (fun _ => 0) x Gen.sliceFits_S1x2048x8_S1x2048x2 (ix3 0 n q) = x (ix3 0 n e) := by
  unfold extractStridedSlice
  refine congrArg x (funext fun a => Fin.ext ?_)
  match a with
  | ⟨0, _⟩ => rfl
  | ⟨1, _⟩ => show 0 + n.val = n.val; omega
  | ⟨2, _⟩ => show 0 + q.val = e.val; omega

variable (x0 : Vec Ideal S1x2048x2048 .f32) (x1 : Vec Ideal S8x2048 .f32)

/-- The logits of the arguments. -/
def lgs : Nat → Fin 8 → EReal := logits (fun n k => x0 (ix3 0 n k)) fun e k => x1 (ix2 e k)

/-- The reference's product is the logits. -/
theorem logit_at (n : Fin 2048) (e : Fin 8) : val_main_v1 (F := Ideal) x0 x1 (ix3 0 n e) = lgs x0 x1 n.val e := by
  rw [val_main_v1_apply]
  unfold lgs logits
  refine Finset.sum_congr rfl fun k _ => ?_
  rw [mul_comm, val_main_v0_apply]
  have hn : Fin.ofNat 2048 n.val = n := Fin.ext (Nat.mod_eq_of_lt n.isLt)
  rw [hn]
  congr 1
  · refine congrArg x1 (funext fun a => Fin.ext ?_)
    match a with
    | ⟨0, _⟩ => rfl
    | ⟨1, _⟩ => rfl
  · refine congrArg x0 (funext fun a => Fin.ext ?_)
    match a with
    | ⟨0, _⟩ => rfl
    | ⟨1, _⟩ => rfl
    | ⟨2, _⟩ => rfl

/-- The expert at one of a token's two positions. -/
def pick (L : Nat → Fin 8 → EReal) (q : Fin 2) (n : Nat) : Fin 8 := if q = 0 then fstE L n else sndE L n

theorem pick_zero (L : Nat → Fin 8 → EReal) (n : Nat) : pick L 0 n = fstE L n := if_pos rfl

theorem pick_one (L : Nat → Fin 8 → EReal) (n : Nat) : pick L 1 n = sndE L n := if_neg (by decide)

theorem pick_cases (L : Nat → Fin 8 → EReal) (q : Fin 2) (n : Nat) : pick L q n = fstE L n ∨ pick L q n = sndE L n := by
  unfold pick
  split
  · exact Or.inl rfl
  · exact Or.inr rfl

variable (hL : ∀ n e, lgs x0 x1 n e ≠ ⊥)

include hL in
theorem sorted_pick (n : Fin 2048) (q : Fin 2) :
    sortedFrom (fun k k' : Fin 8 => decide (val_main_v1 (F := Ideal) x0 x1 (ix3 0 n k') < val_main_v1 (F := Ideal) x0 x1 (ix3 0 n k)))
      (⟨q.val, by omega⟩ : Fin 8) = pick (lgs x0 x1) q n.val := by
  have h := sorted_two (hL n.val)
  simp only [logit_at]
  match q with
  | 0 => exact h.1
  | 1 => exact h.2

include hL in
/-- The selected logits. -/
theorem values_at (n : Fin 2048) (q : Fin 2) :
    val_main_values (F := Ideal) x0 x1 (ix3 0 n q) = lgs x0 x1 n.val (pick (lgs x0 x1) q n.val) := by
  refine (cut_at (sorted (val_main_v1 (F := Ideal) x0 x1)).1 n q ⟨q.val, by omega⟩ rfl).trans ?_
  rw [(sort_at _ _ n _).1, sorted_pick x0 x1 hL, logit_at]

include hL in
/-- The selected experts. -/
theorem indices_at (n : Fin 2048) (q : Fin 2) :
    val_main_indices (F := Ideal) x0 x1 (ix3 0 n q) = BitVec.ofNat 32 (pick (lgs x0 x1) q n.val).val := by
  refine (cut_at (sorted (val_main_v1 (F := Ideal) x0 x1)).2 n q ⟨q.val, by omega⟩ rfl).trans ?_
  rw [(sort_at _ _ n _).2, sorted_pick x0 x1 hL]
  rfl

include hL in
/-- The selected logits, token by token. -/
theorem tv_at (n : Fin 2048) (q : Fin 2) :
    val_main_v3 (F := Ideal) x0 x1 (ix2 n q) = lgs x0 x1 n.val (pick (lgs x0 x1) q n.val) := by
  rw [← values_at x0 x1 hL, val_main_v3_apply]
  refine congrArg _ (funext fun a => Fin.ext ?_)
  match a with
  | ⟨0, _⟩ => rfl
  | ⟨1, _⟩ => show (n.val * 2 + q.val) / 2 % 2048 = n.val; omega
  | ⟨2, _⟩ => show (n.val * 2 + q.val) % 2 = q.val; omega

include hL in
/-- The selected experts, token by token. -/
theorem ti_at (n : Fin 2048) (q : Fin 2) :
    val_main_v4 (F := Ideal) x0 x1 (ix2 n q) = BitVec.ofNat 32 (pick (lgs x0 x1) q n.val).val := by
  rw [← indices_at x0 x1 hL, val_main_v4_apply]
  refine congrArg _ (funext fun a => Fin.ext ?_)
  match a with
  | ⟨0, _⟩ => rfl
  | ⟨1, _⟩ => show (n.val * 2 + q.val) / 2 % 2048 = n.val; omega
  | ⟨2, _⟩ => show (n.val * 2 + q.val) % 2 = q.val; omega

end Cert.ReferenceIdeal.Choice
end
-- ==== Proof.Softmax.lean ====
module
public import proofs.«01_k».proof.Proof.Spec

/-! The softmax of a row that holds a token's two chosen logits and −∞ elsewhere: the token's two weights. -/
@[expose] public section
noncomputable section
namespace Cert.Router
open Idealize.ShloMosaic

variable (L : Nat → Fin 8 → EReal) (n : Nat)

/-- The row: the two chosen logits, −∞ elsewhere. -/
def spread (e : Fin 8) : EReal := if fstE L n = e then L n (fstE L n) else if sndE L n = e then L n (sndE L n) else ⊥

/-- The row's exponentials, taken relative to the greatest entry. -/
def powers (e : Fin 8) : EReal := if fstE L n = e then 1 else if sndE L n = e then gap L n else 0

theorem snd_le : L n (sndE L n) ≤ L n (fstE L n) := (isTop_top (L n)).1 _

/-- The greatest entry of the row is the first choice's. -/
theorem spread_max : Finset.univ.fold max ⊥ (spread L n) = L n (fstE L n) := by
  apply le_antisymm
  · rw [Finset.fold_max_le]
    refine ⟨bot_le, fun e _ => ?_⟩
    unfold spread
    split
    · exact le_rfl
    · split
      · exact snd_le L n
      · exact bot_le
  · rw [Finset.le_fold_max]
    exact Or.inr ⟨fstE L n, Finset.mem_univ _, by unfold spread; rw [if_pos rfl]⟩

variable (hR : ∀ e, ∃ r : ℝ, L n e = r)

include hR in
theorem spread_exp (e : Fin 8) : Ideal.exp (spread L n e - L n (fstE L n)) = powers L n e := by
  unfold spread powers gap
  obtain ⟨a, ha⟩ := hR (fstE L n)
  split
  · rw [ha, ← EReal.coe_sub, sub_self, Ideal.exp_coe, Real.exp_zero, EReal.coe_one]
  · split
    · rfl
    · rw [ha, EReal.bot_sub, Ideal.exp_bot]

include hR in
theorem gap_real : ∃ r : ℝ, 0 < r ∧ gap L n = r := by
  obtain ⟨a, ha⟩ := hR (fstE L n)
  obtain ⟨b, hb⟩ := hR (sndE L n)
  exact ⟨Real.exp (b - a), Real.exp_pos _, by unfold gap; rw [ha, hb, ← EReal.coe_sub, Ideal.exp_coe]⟩

include hR in
theorem fst_ne_snd : fstE L n ≠ sndE L n := fun h =>
  second_ne (l := L n) (fun e he => by obtain ⟨r, hr⟩ := hR e; rw [he] at hr; exact EReal.bot_ne_coe r hr) h.symm

include hR in
theorem powers_sum : ∑ e, powers L n e = 1 + gap L n := by
  have h : ∀ e, powers L n e = (if fstE L n = e then 1 else 0) + (if sndE L n = e then gap L n else 0) := fun e => by
    unfold powers
    by_cases h1 : fstE L n = e
    · rw [if_pos h1, if_pos h1, if_neg (fun h2 => fst_ne_snd L n hR (h1.trans h2.symm)), add_zero]
    · rw [if_neg h1, if_neg h1, zero_add]
  simp only [h, Finset.sum_add_distrib, Finset.sum_ite_eq, Finset.mem_univ, if_true]

include hR in
/-- The quotients are the two weights. -/
theorem powers_div (e : Fin 8) : Ideal.div (powers L n e) (1 + gap L n) = weight L n e := by
  obtain ⟨r, hr, hg⟩ := gap_real L n hR
  have hne : (1 + gap L n : EReal) ≠ 0 := by
    rw [hg, ← EReal.coe_one, ← EReal.coe_add]
    exact_mod_cast (by linarith : (1 + r : ℝ) ≠ 0)
  unfold powers weight prob2 prob1
  simp only [Ideal.div, if_neg hne]
  split
  · rfl
  · split
    · rw [one_mul]
    · rw [zero_mul]

end Cert.Router
end
-- ==== Proof.RefProbs.lean ====
module
public import proofs.«01_k».proof.Proof.RefChoice
public import Idealize.ShloMosaic.Lib.Routing.OpsPair
public import Idealize.ShloMosaic.Lib.Routing.OpsSet
public import proofs.«01_k».proof.Proof.Softmax

/-! The reference's probabilities: the two chosen logits are put in a table filled with −∞ and the
softmax of the table's rows is taken, so a token's row holds the two weights and zeros. -/
@[expose] public section
set_option maxRecDepth 16384
noncomputable section
namespace Cert.ReferenceIdeal.Probs
open Idealize.ShloMosaic Cert.ReferenceIdeal Cert.ReferenceIdeal.Read Idealize.ShloMosaic.Pointwise Cert.Router
open Cert.ReferenceIdeal.Choice

variable (x0 : Vec Ideal S1x2048x2048 .f32) (x1 : Vec Ideal S8x2048 .f32)
variable (hL : ∀ n e, lgs x0 x1 n e ≠ ⊥) (hR : ∀ n e, ∃ r : ℝ, lgs x0 x1 n e = r)

/-- A small number's word is not negative, so it is not wrapped round. -/
theorem unwrapped (x : Nat) (hx : x < 2 ^ 31) (a : BitVec 32) :
    Scalar.select (IntOp.cmpi .slt (BitVec.ofNat 32 x) 0#32) a (BitVec.ofNat 32 x) = BitVec.ofNat 32 x :=
  Routing.wrap_of_lt _ _ (by rw [BitVec.toNat_ofNat]; omega)

/-- Where a chosen logit goes: its token. -/
theorem place_token (n : Fin 2048) (q : Fin 2) : val_main_v21 (F := Ideal) x0 x1 (ix3 n q 0) = BitVec.ofNat 32 n.val := by
  refine Eq.trans ?_ (unwrapped n.val (by omega) (IntOp.addi (BitVec.ofNat 32 n.val) 2048#32))
  pointwise [val_main_v21, val_main_v19, val_main_v18, val_main_v12, val_main_v11, val_main_v10, val_main_v9, val_main_v8, val_main_v7,
    val_main_v6, val_main_c, val_main_c_0]

include hL in
/-- Where a chosen logit goes: its expert. -/
theorem place_expert (n : Fin 2048) (q : Fin 2) :
    val_main_v21 (F := Ideal) x0 x1 (ix3 n q 1) = BitVec.ofNat 32 (pick (lgs x0 x1) q n.val).val := by
  refine Eq.trans ?_ (unwrapped (pick (lgs x0 x1) q n.val).val (by omega) (IntOp.addi (BitVec.ofNat 32 (pick (lgs x0 x1) q n.val).val) 8#32))
  rw [← ti_at x0 x1 hL]
  pointwise [val_main_v21, val_main_v20, val_main_v17, val_main_v16, val_main_v15, val_main_v14, val_main_v13, val_main_c_1, val_main_c_2]

include hL in
/-- Which entry of the table a chosen logit lands in. -/
theorem lands (n m : Fin 2048) (q : Fin 2) (e : Fin 8) :
    scatter_S2048x8_S2048x2x2_S2048x2_n_01_01_2.resultIdx? (ix2 n q) (val_main_v21 (F := Ideal) x0 x1) = some (ix2 m e)
      ↔ n = m ∧ pick (lgs x0 x1) q n.val = e := by
  have h := Routing.scatter_lands2 scatter_S2048x8_S2048x2x2_S2048x2_n_01_01_2 rfl rfl rfl (val_main_v21 (F := Ideal) x0 x1) n q m e
  simp only [← ix2_eq_valueIdx, ← ix3_eq_valueIdx] at h
  have h0 := congrArg BitVec.toInt (place_token x0 x1 n q)
  have h1 := congrArg BitVec.toInt (place_expert x0 x1 hL n q)
  rw [StableHlo.Predicate.toInt_ofNat_small _ (by omega)] at h0 h1
  refine h.trans ?_
  rw [h0, h1]
  constructor
  · rintro ⟨a, b⟩; exact ⟨Fin.ext (by omega), Fin.ext (by omega)⟩
  · rintro ⟨a, b⟩; exact ⟨by rw [a], by rw [b]⟩

include hL in
/-- The table holds the two chosen logits of each token and −∞ elsewhere. -/
theorem table_at (n : Fin 2048) (e : Fin 8) : val_main_v22 (F := Ideal) x0 x1 (ix2 n e) = spread (lgs x0 x1) n.val e := by
  unfold val_main_v22
  have hit : ∀ q : Fin 2, pick (lgs x0 x1) q n.val = e →
      Host.scatter scatter_S2048x8_S2048x2x2_S2048x2_n_01_01_2 (fun _ b => b) (val_main_v5 (F := Ideal)) (val_main_v21 (F := Ideal) x0 x1)
        (val_main_v3 (F := Ideal) x0 x1) (ix2 n e) = lgs x0 x1 n.val e := fun q hq => by
    refine Routing.scatter_set_hit _ _ _ _ _ _ (fun k hk => ?_) (ix2 n q) ((lands x0 x1 hL n n q e).2 ⟨rfl, hq⟩)
    obtain ⟨m, p, rfl⟩ : ∃ m p, k = ix2 m p := ⟨_, _, eq_ix2 k⟩
    obtain ⟨rfl, h⟩ := (lands x0 x1 hL m n p e).1 hk
    rw [tv_at x0 x1 hL, h]
  unfold spread
  by_cases h0 : fstE (lgs x0 x1) n.val = e
  · rw [if_pos h0, h0]; exact hit 0 ((pick_zero _ _).trans h0)
  · rw [if_neg h0]
    by_cases h1 : sndE (lgs x0 x1) n.val = e
    · rw [if_pos h1, h1]; exact hit 1 ((pick_one _ _).trans h1)
    · rw [if_neg h1]
      rw [Routing.scatter_set_miss]
      · rw [val_main_v5_apply, val_main_cst_apply]
        simp [Ideal.ofBits, Ideal.ieee]
      · intro k hk
        obtain ⟨m, p, rfl⟩ : ∃ m p, k = ix2 m p := ⟨_, _, eq_ix2 k⟩
        obtain ⟨rfl, h⟩ := (lands x0 x1 hL m n p e).1 hk
        rcases pick_cases (lgs x0 x1) p m.val with hp | hp
        · exact h0 (hp.symm.trans h)
        · exact h1 (hp.symm.trans h)

include hL in
/-- The greatest entry of a row. -/
theorem max_at (n : Fin 2048) : val_main_v25 (F := Ideal) x0 x1 (ix1 n) = lgs x0 x1 n.val (fstE (lgs x0 x1) n.val) := by
  rw [← spread_max (lgs x0 x1) n.val, ← funext (table_at x0 x1 hL n)]
  pointwise [val_main_v25, val_main_v24, val_main_v23, val_main_cst_3, val_main_cst_4]
  have h : Ideal.ofBits .f32 0xFF800000#32 = ⊥ := by simp [Ideal.ofBits, Ideal.ieee]
  rw [h]
  exact max_eq_right bot_le

include hL hR in
/-- The exponentials. -/
theorem exp_at (n : Fin 2048) (e : Fin 8) : val_main_v29 (F := Ideal) x0 x1 (ix2 n e) = powers (lgs x0 x1) n.val e := by
  rw [← spread_exp (lgs x0 x1) n.val (hR n.val), ← table_at x0 x1 hL n, ← max_at x0 x1 hL]
  pointwise [val_main_v29, val_main_v28, val_main_v27, val_main_v26]

include hL hR in
/-- The sum of a row's exponentials. -/
theorem sum_at (n : Fin 2048) : val_main_v30 (F := Ideal) x0 x1 (ix1 n) = 1 + gap (lgs x0 x1) n.val := by
  rw [← powers_sum (lgs x0 x1) n.val (hR n.val), ← funext (exp_at x0 x1 hL hR n)]
  pointwise [val_main_v30, val_main_cst_5]

include hL hR in
/-- The probabilities are the weights. -/
theorem probs_at (n : Fin 2048) (e : Fin 8) : val_main_v33 (F := Ideal) x0 x1 (ix2 n e) = weight (lgs x0 x1) n.val e := by
  rw [← powers_div (lgs x0 x1) n.val (hR n.val), ← exp_at x0 x1 hL hR, ← sum_at x0 x1 hL hR]
  pointwise [val_main_v33, val_main_v32, val_main_v31]

end Cert.ReferenceIdeal.Probs
end
-- ==== Proof.RefRank.lean ====
module
public import proofs.«01_k».proof.Proof.RefChoice
public import proofs.«01_k».proof.Proof.RankBlock
public import Idealize.ShloMosaic.Lib.Routing.OpsOne

/-! The reference's places: the running count of the slots that ask for an expert, the slots that
find room among the expert's 640 places, and how many places are taken. -/
@[expose] public section
set_option maxRecDepth 16384
noncomputable section
namespace Cert.ReferenceIdeal.Places
open Idealize.ShloMosaic Cert.ReferenceIdeal Cert.ReferenceIdeal.Read Idealize.ShloMosaic.Pointwise Cert.Router
open Cert.ReferenceIdeal.Choice

variable (x0 : Vec Ideal S1x2048x2048 .f32) (x1 : Vec Ideal S8x2048 .f32)
variable (hL : ∀ n e, lgs x0 x1 n e ≠ ⊥)

/-- The expert each slot asks for. -/
abbrev ask : Nat → Fin 8 := slot (fstE (lgs x0 x1)) (sndE (lgs x0 x1))

theorem ask_pick (q : Fin 2) (n : Fin 2048) : ask x0 x1 (q.val * 2048 + n.val) = pick (lgs x0 x1) q n.val := by
  match q with
  | 0 => rw [pick_zero, show (0 : Fin 2).val * 2048 + n.val = n.val by simp]; exact slot_first _ _ n.isLt
  | 1 => rw [pick_one, show (1 : Fin 2).val * 2048 + n.val = 2048 + n.val by simp]; exact slot_later _ _ _

/-- A truth value as a word. -/
theorem bit_word (p : Prop) [Decidable p] : BitVec.setWidth 32 (BitVec.ofBool (decide p)) = BitVec.ofNat 32 (if p then 1 else 0) := by
  by_cases h : p
  · rw [if_pos h, decide_eq_true h]; rfl
  · rw [if_neg h, decide_eq_false h]; rfl

theorem word_eq' (e a : Fin 8) :
    IntOp.cmpi CmpIPredicate.eq (BitVec.ofNat 32 a.val) (BitVec.ofNat 32 e.val) = BitVec.ofBool (decide (a = e)) := by
  revert e a; decide

include hL in
/-- The marks of a slot's expert. -/
theorem mark_at (q : Fin 2) (n : Fin 2048) (e : Fin 8) :
    val_main_v35 (F := Ideal) x0 x1 (ix3 q n e) = BitVec.ofNat 32 (if ask x0 x1 (q.val * 2048 + n.val) = e then 1 else 0) := by
  pointwise [val_main_v35, val_main_v34, val_main_call0_v4, val_main_call0_v3, val_main_call0_v2, val_main_call0_v1, val_main_call0_v0]
  rw [ti_at x0 x1 hL, word_eq', bit_word, ask_pick]

include hL in
/-- The marks with the slots in one row. -/
theorem mark_slot (s : Fin 4096) (e : Fin 8) :
    val_main_v36 (F := Ideal) x0 x1 (ix2 s e) = BitVec.ofNat 32 (if ask x0 x1 s.val = e then 1 else 0) := by
  pointwise [val_main_v36]
  rw [mark_at x0 x1 hL, show s.val / 2048 * 2048 + s.val % 2048 = s.val by omega]

include hL in
/-- The running count of the marks. -/
theorem count_at (s : Fin 4096) (e : Fin 8) :
    val_main_v37 (F := Ideal) x0 x1 (ix2 s e) = BitVec.ofNat 32 (cnt (ask x0 x1) e (s.val + 1)) := by
  unfold val_main_v37
  rw [cnt_eq_list]
  have h := Routing.cumsum_rows (R := 4096) (Rm1 := 4095) (C := 8) rfl (val_main_v36 (F := Ideal) x0 x1)
    (fun i c => if (ask x0 x1 i).val = c then 1 else 0)
    (fun i c => by rw [← ix2_eq_valueIdx]; simp only [Fin.val_inj]; exact mark_slot x0 x1 hL i c)
    (val_main_call1_call0_v0 (F := Ideal)) rfl Gen.reduceWindows_S4096x8_S4096x8_w4096s1p4095_0_w1s1p0_0 Gen.h_S_ s e
  rw [← ix2_eq_valueIdx] at h
  simp only [Fin.val_inj] at h
  exact h

include hL in
/-- The place of a slot, before any check that it chooses the expert. -/
theorem place_at (q : Fin 2) (n : Fin 2048) (e : Fin 8) :
    val_main_v40 (F := Ideal) x0 x1 (ix3 q n e) = BitVec.ofNat 32 (cnt (ask x0 x1) e (q.val * 2048 + n.val + 1)) - 1#32 := by
  pointwise [val_main_v40, val_main_v39, val_main_v38, val_main_c_6]
  rw [count_at x0 x1 hL]
  rfl

/-- The place of a slot in the queue of expert `e`. -/
abbrev spot (q : Fin 2) (n : Fin 2048) (e : Fin 8) : Nat := cnt (ask x0 x1) e (q.val * 2048 + n.val)

theorem spot_le (q : Fin 2) (n : Fin 2048) (e : Fin 8) : spot x0 x1 q n e ≤ 4096 := by
  have := cnt_le (ask x0 x1) e (q.val * 2048 + n.val)
  show cnt _ _ _ ≤ _
  omega

include hL in
/-- The place of a slot that chooses the expert: the number of slots before it that do. -/
theorem place_chosen (q : Fin 2) (n : Fin 2048) (e : Fin 8) (h : ask x0 x1 (q.val * 2048 + n.val) = e) :
    val_main_v40 (F := Ideal) x0 x1 (ix3 q n e) = BitVec.ofNat 32 (spot x0 x1 q n e) := by
  rw [place_at x0 x1 hL, cnt_succ, if_pos h, BitVec.ofNat_add]
  exact add_sub_cancel_right _ _

/-- A slot is kept for an expert that it chooses and whose places are not all taken. -/
abbrev Kept (q : Fin 2) (n : Fin 2048) (e : Fin 8) : Prop := ask x0 x1 (q.val * 2048 + n.val) = e ∧ spot x0 x1 q n e < 640

theorem room (k : Nat) (hk : k ≤ 4096) : IntOp.cmpi CmpIPredicate.slt (BitVec.ofNat 32 k) 640#32 = BitVec.ofBool (decide (k < 640)) := by
  show BitVec.ofBool (BitVec.slt (BitVec.ofNat 32 k) 640#32) = _
  congr 1
  unfold BitVec.slt
  rw [StableHlo.Predicate.toInt_ofNat_small _ (by omega)]
  exact decide_eq_decide.mpr (by show (k : Int) < 640 ↔ k < 640; omega)

include hL in
/-- The marks of the kept slots. -/
theorem kept_at (q : Fin 2) (n : Fin 2048) (e : Fin 8) :
    val_main_v44 (F := Ideal) x0 x1 (ix3 q n e) = BitVec.ofNat 32 (if Kept x0 x1 q n e then 1 else 0) := by
  pointwise [val_main_v44, val_main_v43, val_main_v42, val_main_v41, val_main_c_7]
  rw [mark_at x0 x1 hL]
  by_cases h : ask x0 x1 (q.val * 2048 + n.val) = e
  · rw [place_chosen x0 x1 hL q n e h, room _ (spot_le x0 x1 q n e), bit_word, if_pos h]
    refine (one_mul (BitVec.ofNat 32 _)).trans ?_
    simp only [Kept, h, true_and]
  · rw [if_neg h, if_neg (fun k => h k.1)]
    exact zero_mul _

/-- Adding words that are numbers gives the word of the sum. -/
theorem fold_words {ι : Type} (s : Finset ι) (g : ι → BitVec 32) (f : ι → Nat) (h : ∀ i ∈ s, g i = BitVec.ofNat 32 (f i)) :
    s.fold IntOp.addi 0#32 g = BitVec.ofNat 32 (∑ i ∈ s, f i) := by
  classical
  induction s using Finset.induction_on with
  | empty => rfl
  | insert a s ha ih =>
    rw [Finset.fold_insert ha, Finset.sum_insert ha, ih fun i hi => h i (Finset.mem_insert_of_mem hi), h a (Finset.mem_insert_self a s),
      BitVec.ofNat_add]
    rfl

include hL in
/-- The place of the expert a slot chooses, if it is kept. -/
theorem own_place (q : Fin 2) (n : Fin 2048) :
    val_main_v47 (F := Ideal) x0 x1 (ix2 q n) = BitVec.ofNat 32 (if spot x0 x1 q n (pick (lgs x0 x1) q n.val) < 640
      then spot x0 x1 q n (pick (lgs x0 x1) q n.val) else 0) := by
  pointwise [val_main_v47, val_main_v46, val_main_c_9]
  rw [fold_words Finset.univ _ (fun e => if pick (lgs x0 x1) q n.val = e then (if spot x0 x1 q n e < 640 then spot x0 x1 q n e else 0) else 0)]
  · rw [Finset.sum_ite_eq, if_pos (Finset.mem_univ _)]
  · intro e _
    rw [kept_at x0 x1 hL]
    by_cases h : pick (lgs x0 x1) q n.val = e
    · have ha := (ask_pick x0 x1 q n).trans h
      rw [place_chosen x0 x1 hL q n e ha, if_pos h]
      by_cases h2 : spot x0 x1 q n e < 640
      · rw [if_pos ⟨ha, h2⟩, if_pos h2]; exact one_mul _
      · rw [if_neg (fun k => h2 k.2), if_neg h2]; exact zero_mul _
    · rw [if_neg (fun k => h ((ask_pick x0 x1 q n).symm.trans k.1)), if_neg h]
      exact zero_mul _

/-- One for a kept slot, zero for the others. -/
def one (q : Fin 2) (n : Fin 2048) (e : Fin 8) : Nat := if Kept x0 x1 q n e then 1 else 0

/-- The two rows of slots, one after the other. -/
theorem sum_slots (f : Nat → Nat) : ∑ q : Fin 2, ∑ n : Fin 2048, f (q.val * 2048 + n.val) = ∑ s ∈ Finset.range 4096, f s := by
  rw [Fin.sum_univ_two, show 4096 = 2048 + 2048 from rfl, Finset.sum_range_add, Finset.sum_range, Finset.sum_range]
  simp

theorem drop_at (q : Fin 2) (n : Fin 2048) (k : Fin 8) : Gen.reducesTo_S2x2048x8_S8_d0_1.drop (ix3 q n k) = ix1 k := by
  funext a
  match a with
  | ⟨0, _⟩ => rfl

/-- The sum over the entries that belong to one expert. -/
theorem sum_column (e : Fin 8) (g : Fin 2 → Fin 2048 → Fin 8 → Nat) :
    (∑ i ∈ Finset.univ.filter fun i : S2x2048x8.Idx => Gen.reducesTo_S2x2048x8_S8_d0_1.drop i = ix1 e, g (i 0) (i 1) (i 2))
      = ∑ q : Fin 2, ∑ n : Fin 2048, g q n e := by
  have hi : ∀ (q : Fin 2) (n : Fin 2048) (k : Fin 8), Gen.reducesTo_S2x2048x8_S8_d0_1.drop (ix3 q n k) = ix1 e ↔ k = e := fun q n k => by
    rw [drop_at]
    exact ⟨fun h => congrFun h 0, fun h => h ▸ rfl⟩
  rw [Finset.sum_filter, sum_idx3]
  refine Finset.sum_congr rfl fun q _ => Finset.sum_congr rfl fun n _ => ?_
  simp only [hi]
  exact (Finset.sum_ite_eq' Finset.univ e fun k => g q n k).trans (if_pos (Finset.mem_univ _))

include hL in
/-- The places taken of each expert: the first result. -/
theorem used_at (e : Fin 8) : val_main_v45 (F := Ideal) x0 x1 (ix1 e) = usedSpec (lgs x0 x1) e := by
  have hs : usedSpec (lgs x0 x1) e = BitVec.ofNat 32 (∑ q : Fin 2, ∑ n : Fin 2048, if Kept x0 x1 q n e then 1 else 0) := by
    unfold usedSpec total
    rw [sum_slots (fun s => if ask x0 x1 s = e ∧ cnt (ask x0 x1) e s < 640 then 1 else 0), kept_eq, show 4096 = 2048 + 2048 from rfl, cnt_slot_later]
  rw [hs]
  pointwise [val_main_v45, val_main_c_8]
  rw [fold_words _ _ (fun i : S2x2048x8.Idx => one x0 x1 (i 0) (i 1) (i 2))]
  · exact congrArg (BitVec.ofNat 32) (sum_column e (one x0 x1))
  · intro i _
    obtain ⟨q, n, k, rfl⟩ : ∃ q n k, i = ix3 q n k := ⟨_, _, _, eq_ix3 i⟩
    exact kept_at x0 x1 hL q n k

end Cert.ReferenceIdeal.Places
end
-- ==== Proof.RefValue.lean ====
module
public import proofs.«01_k».proof.Proof.RefProbs
public import proofs.«01_k».proof.Proof.RefRank

/-! The reference's second and third results: every kept slot's weight at its place, and which entries are not zero. -/
@[expose] public section
set_option maxRecDepth 16384
noncomputable section
namespace Cert.ReferenceIdeal.Results
open Idealize.ShloMosaic Cert.ReferenceIdeal Cert.ReferenceIdeal.Read Idealize.ShloMosaic.Pointwise Cert.Router
open Cert.ReferenceIdeal.Choice Cert.ReferenceIdeal.Places Cert.ReferenceIdeal.Probs

variable (x0 : Vec Ideal S1x2048x2048 .f32) (x1 : Vec Ideal S8x2048 .f32)
variable (hR : ∀ n e, ∃ r : ℝ, lgs x0 x1 n e = r)

theorem mark_float (p : Prop) [Decidable p] :
    (FloatOps.sitofp FTy.f32 (BitVec.ofNat 32 (if p then 1 else 0)) : Ideal .f32) = if p then (1 : EReal) else 0 := by
  rw [← bit_word]
  exact Cert.KernelIdeal.Rank.sitofp_bool p

theorem bit_float (p : Prop) [Decidable p] :
    (FloatOps.uitofp FTy.f32 (BitVec.ofBool (decide p)) : Ideal .f32) = if p then (1 : EReal) else 0 := by
  by_cases h : p
  · rw [if_pos h, decide_eq_true h]
    show (((BitVec.ofBool true).toNat : ℝ) : EReal) = 1
    simp
  · rw [if_neg h, decide_eq_false h]
    show (((BitVec.ofBool false).toNat : ℝ) : EReal) = 0
    simp

theorem word_inj (a c : Nat) (ha : a ≤ 4096) (hc : c < 640) : BitVec.ofNat 32 a = BitVec.ofNat 32 c ↔ a = c := by
  constructor
  · intro h
    have := congrArg BitVec.toNat h
    rw [BitVec.toNat_ofNat, BitVec.toNat_ofNat] at this
    omega
  · rintro rfl; rfl

theorem eq_words (a c : Nat) (ha : a ≤ 4096) (hc : c < 640) :
    IntOp.cmpi CmpIPredicate.eq (BitVec.ofNat 32 a) (BitVec.ofNat 32 c) = BitVec.ofBool (decide (a = c)) := by
  show BitVec.ofBool (BitVec.ofNat 32 a == BitVec.ofNat 32 c) = _
  congr 1
  rw [beq_eq_decide]
  exact decide_eq_decide.mpr (word_inj a c ha hc)

include hR in
/-- What one slot puts at place `c` of expert `e`: its weight, if it chooses the expert and `c` is its place. -/
theorem slot_part (q : Fin 2) (n : Fin 2048) (e : Fin 8) (c : Fin 640) :
    ((FloatOps.sitofp FTy.f32 (val_main_v44 (F := Ideal) x0 x1 (ix3 q n e)) : Ideal .f32) * val_main_v33 (F := Ideal) x0 x1 (ix2 n e) *
        (FloatOps.uitofp FTy.f32 (IntOp.cmpi CmpIPredicate.eq (val_main_v47 (F := Ideal) x0 x1 (ix2 q n)) (BitVec.ofNat 32 c.val)) : Ideal .f32) : EReal)
      = if pick (lgs x0 x1) q n.val = e ∧ spot x0 x1 q n e = c.val then weight (lgs x0 x1) n.val e else 0 := by
  have hL : ∀ n e, lgs x0 x1 n e ≠ ⊥ := fun n e h => by obtain ⟨r, hr⟩ := hR n e; rw [h] at hr; exact EReal.bot_ne_coe r hr
  rw [kept_at x0 x1 hL, own_place x0 x1 hL, probs_at x0 x1 hL hR, mark_float]
  by_cases h : pick (lgs x0 x1) q n.val = e
  · have ha := (ask_pick x0 x1 q n).trans h
    rw [h]
    by_cases h2 : spot x0 x1 q n e < 640
    · rw [if_pos ⟨ha, h2⟩, if_pos h2, eq_words _ _ (spot_le x0 x1 q n e) c.isLt, bit_float, one_mul]
      by_cases h3 : spot x0 x1 q n e = c.val
      · rw [if_pos h3, if_pos ⟨rfl, h3⟩, mul_one]
      · rw [if_neg h3, if_neg (fun k => h3 k.2), mul_zero]
    · rw [if_neg (show ¬ Kept x0 x1 q n e from fun k => h2 k.2),
        if_neg (show ¬ (e = e ∧ spot x0 x1 q n e = c.val) from fun k => h2 (k.2 ▸ c.isLt)), zero_mul, zero_mul]
  · rw [if_neg (show ¬ Kept x0 x1 q n e from fun k => h ((ask_pick x0 x1 q n).symm.trans k.1)),
      if_neg (show ¬ (pick (lgs x0 x1) q n.val = e ∧ spot x0 x1 q n e = c.val) from fun k => h k.1), zero_mul, zero_mul]

include hR in
/-- The second result. -/
theorem cb_at (n : Fin 2048) (e : Fin 8) (c : Fin 640) :
    val_main_v58 (F := Ideal) x0 x1 (ix3 n e c) = cbSpec (lgs x0 x1) n.val e c.val := by
  have hp : val_main_v58 (F := Ideal) x0 x1 (ix3 n e c)
      = ∑ q : Fin 2, if pick (lgs x0 x1) q n.val = e ∧ spot x0 x1 q n e = c.val then weight (lgs x0 x1) n.val e else 0 := by
    simp only [← slot_part x0 x1 hR]
    pointwise [val_main_v58, val_main_v57, val_main_v56, val_main_v55, val_main_v54, val_main_v53, val_main_v52, val_main_v51, val_main_v50,
      val_main_v49, val_main_v48, val_main_call2_v4, val_main_call2_v3, val_main_call2_v2, val_main_call2_v1, val_main_call2_v0, val_main_cst_10]
  have h0 : spot x0 x1 0 n e = cnt (fstE (lgs x0 x1)) e n.val := by
    show cnt _ e (0 * 2048 + n.val) = _
    rw [show 0 * 2048 + n.val = n.val by omega]
    exact cnt_slot_first _ _ e n.isLt.le
  have h1 : spot x0 x1 1 n e = cnt (fstE (lgs x0 x1)) e 2048 + cnt (sndE (lgs x0 x1)) e n.val := by
    show cnt _ e (1 * 2048 + n.val) = _
    rw [show 1 * 2048 + n.val = 2048 + n.val by omega]
    exact cnt_slot_later _ _ e n.val
  have b0 := spot_le x0 x1 0 n e
  have b1 := spot_le x0 x1 1 n e
  rw [h0] at b0
  rw [h1] at b1
  rw [hp, Fin.sum_univ_two, pick_zero, pick_one, h0, h1]
  unfold cbSpec rank
  by_cases hf : fstE (lgs x0 x1) n.val = e
  · have hs : ¬ sndE (lgs x0 x1) n.val = e := fun k => fst_ne_snd _ _ (hR n.val) (hf.trans k.symm)
    rw [if_neg (show ¬ (sndE (lgs x0 x1) n.val = e ∧ _) from fun k => hs k.1), add_zero, if_pos hf]
    exact if_congr ((and_iff_right hf).trans (word_inj _ _ b0 c.isLt).symm) rfl rfl
  · rw [if_neg (fun k => hf k.1), zero_add, if_neg hf]
    by_cases hs : sndE (lgs x0 x1) n.val = e
    · rw [if_pos hs]
      exact if_congr ((and_iff_right hs).trans (word_inj _ _ b1 c.isLt).symm) rfl rfl
    · rw [if_neg (fun k => hs k.1)]
      have hw : weight (lgs x0 x1) n.val e = 0 := by
        unfold weight
        rw [if_neg hf, if_neg hs]
      rw [hw, ite_self]

include hR in
/-- The third result. -/
theorem sec_at (n : Fin 2048) (e : Fin 8) (c : Fin 640) :
    val_main_v61 (F := Ideal) x0 x1 (ix3 n e c) = secSpec (lgs x0 x1) n.val e c.val := by
  unfold secSpec
  rw [← cb_at x0 x1 hR]
  show FloatOps.cmpf (F := Ideal) .une (val_main_v58 (F := Ideal) x0 x1 (ix3 n e c)) (Ideal.ofBits .f32 0x00000000#32) = _
  rw [Ideal.ofBits_zero_f32]
  rfl

end Cert.ReferenceIdeal.Results
end
-- ==== Proof.RefRun.lean ====
module
public import proofs.«01_k».proof.Proof.RefValue

/-! The reference's run: what its three results hold when it ends, as functions of the logits of its arguments. -/
@[expose] public section
set_option maxRecDepth 16384
noncomputable section
namespace Cert.ReferenceIdeal.RefRun
open Idealize.ShloMosaic Cert.ReferenceIdeal Cert.ReferenceIdeal.Read Idealize.ShloMosaic.Pointwise Cert.Router Idealize.SL.Sem
open Cert.ReferenceIdeal.Choice Idealize.ShloMosaic.TcCoe

/-- The first result from the logits. -/
def used (L : Nat → Fin 8 → EReal) : Vec Ideal S8 .i32 := fun i => usedSpec L (i 0)

/-- The second result from the logits. -/
def shares (L : Nat → Fin 8 → EReal) : Vec Ideal S2048x8x640 .f32 := fun i => cbSpec L (i 0).val (i 1) (i 2).val

/-- The third result from the logits. -/
def marks (L : Nat → Fin 8 → EReal) : Vec Ideal S2048x8x640 .i1 := fun i => secSpec L (i 0).val (i 1) (i 2).val

section
variable (x0 : Vec Ideal S1x2048x2048 .f32) (x1 : Vec Ideal S8x2048 .f32) (hR : ∀ n e, ∃ r : ℝ, lgs x0 x1 n e = r)

include hR in
theorem used_eq : val_main_v45 (F := Ideal) x0 x1 = used (lgs x0 x1) := by
  funext i
  obtain ⟨e, rfl⟩ : ∃ e, i = ix1 e := ⟨_, eq_ix1 i⟩
  exact Places.used_at x0 x1 (fun n e h => by obtain ⟨r, hr⟩ := hR n e; rw [h] at hr; exact EReal.bot_ne_coe r hr) e

include hR in
theorem shares_eq : val_main_v58 (F := Ideal) x0 x1 = shares (lgs x0 x1) := by
  funext i
  obtain ⟨n, e, c, rfl⟩ : ∃ n e c, i = ix3 n e c := ⟨_, _, _, eq_ix3 i⟩
  exact Results.cb_at x0 x1 hR n e c

include hR in
theorem marks_eq : val_main_v61 (F := Ideal) x0 x1 = marks (lgs x0 x1) := by
  funext i
  obtain ⟨n, e, c, rfl⟩ : ∃ n e c, i = ix3 n e c := ⟨_, _, _, eq_ix3 i⟩
  exact Results.sec_at x0 x1 hR n e c
end

variable (m : (ℓ : Loc nD τ sig) → Buf (Elt Ideal) ℓ) (ρ : Dev nD → PrngReg)

/-- The logits of a device's arguments. -/
abbrev lg (c : Dev nD) : Nat → Fin 8 → EReal := lgs (m ((c.tc : Thread nD τ).loc main_arg0)) (m ((c.tc : Thread nD τ).loc main_arg1))

/-- The reference's results when the logits are reals. -/
theorem values (hR : ∀ c n e, ∃ r : ℝ, lg m c n e = r) :
    θ_run defs (onTc (τ := τ) (main (F := Ideal))) ⟨m, fun _ => 0, ρ⟩ (fun r => ∀ c : Dev nD,
      r.2.mem ((c.tc : Thread nD τ).loc main_v45) = used (lg m c)
      ∧ r.2.mem ((c.tc : Thread nD τ).loc main_v58) = shares (lg m c)
      ∧ r.2.mem ((c.tc : Thread nD τ).loc main_v61) = marks (lg m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1.trans (val_main_v45_eq _ _)).trans (used_eq _ _ (hR c)),
     ((h c).2.1.trans (val_main_v58_eq m c)).trans (shares_eq _ _ (hR c)),
     ((h c).2.2.1.trans (val_main_v61_eq m c)).trans (marks_eq _ _ (hR c)),
     (h c).2.2.2.1, (h c).2.2.2.2⟩) (Value.run m ρ)

end Cert.ReferenceIdeal.RefRun
end
-- ==== Proof.Finite.lean ====
module
public import proofs.«01_k».proof.Pre_finite
public import Idealize.ShloMosaic.Lib.Pointwise

/-! What the precondition says: every entry of the two arguments is a real number. -/
@[expose] public section
set_option maxRecDepth 16384
noncomputable section
namespace Cert.Pre_finite
open Idealize.ShloMosaic Idealize.ShloMosaic.Pointwise

/-- The shape conditions that the predicate's operations take. -/
theorem facts : Facts where
  bcast_S_S1x2048x2048 := by decide
  reducesTo_S1x2048x2048_S_d0_1_2 := by decide
  h_S_ := by decide
  bcast_S_S8x2048 := by decide
  reducesTo_S8x2048_S_d0_1 := by decide

/-- If the conjunction of the truth values is true, each of them is. -/
theorem all_of_fold {ι : Type} (s : Finset ι) (g : ι → BitVec 1) (h : s.fold IntOp.andi 1#1 g = 1#1) : ∀ i ∈ s, g i = 1#1 := by
  classical
  induction s using Finset.induction_on with
  | empty => exact fun i hi => absurd hi (Finset.notMem_empty i)
  | insert a s ha ih =>
    rw [Finset.fold_insert ha] at h
    have h2 : g a = 1#1 ∧ s.fold IntOp.andi 1#1 g = 1#1 := by
      revert h
      generalize g a = p
      generalize s.fold IntOp.andi 1#1 g = q
      revert p q
      decide
    intro i hi
    rcases Finset.mem_insert.mp hi with rfl | hi
    · exact h2.1
    · exact ih h2.2 i hi

/-- An extended real whose magnitude is below +∞ is a real. -/
theorem real_of_lt (x : EReal) (h : BitVec.ofBool (decide ((FloatOps.absf (F := Ideal) (φ := .f32) x : EReal) < Ideal.ofBits .f32 0x7F800000#32)) = 1#1) :
    ∃ r : ℝ, x = r := by
  have hi : Ideal.ofBits .f32 0x7F800000#32 = ⊤ := by simp [Ideal.ofBits, Ideal.ieee]
  rw [hi] at h
  have hx : (FloatOps.absf (F := Ideal) (φ := .f32) x : EReal) < ⊤ := by
    by_contra hn
    rw [decide_eq_false hn] at h
    exact absurd h (by decide)
  have ha : (FloatOps.absf (F := Ideal) (φ := .f32) x : EReal) = max x (-x) := rfl
  rw [ha, max_lt_iff] at hx
  induction x with
  | bot => exact absurd hx.2 (by rw [EReal.neg_bot]; exact lt_irrefl _)
  | top => exact absurd hx.1 (lt_irrefl _)
  | coe r => exact ⟨r, rfl⟩

/-- If all the magnitudes are below +∞, all the entries are reals. -/
theorem all_real {ι : Type} [Fintype ι] (f : ι → EReal) (h : (Finset.univ.fold IntOp.andi 1#1 fun k : ι =>
    BitVec.ofBool (decide ((FloatOps.absf (F := Ideal) (φ := .f32) (f k) : EReal) < Ideal.ofBits .f32 0x7F800000#32))) = 1#1) (k : ι) :
    ∃ r : ℝ, f k = r :=
  real_of_lt (f k) (all_of_fold Finset.univ _ h k (Finset.mem_univ k))

attribute [local instance] facts

theorem both (a b : BitVec 1) (h : IntOp.andi a b = 1#1) : a = 1#1 ∧ b = 1#1 := by
  revert a b; decide

/-- The precondition: all the entries are reals. -/
theorem real (x : Vec Ideal S1x2048x2048 .f32) (w : Vec Ideal S8x2048 .f32) (h : fn (F := Ideal) x w = fun _ => 1#1) :
    (∀ n k, ∃ r : ℝ, x (ix3 0 n k) = r) ∧ ∀ e k, ∃ r : ℝ, w (ix2 e k) = r := by
  have h0 : fn (F := Ideal) x w ix0 = 1#1 := congrFun h ix0
  have e : fn (F := Ideal) x w ix0 = IntOp.andi
      (Finset.univ.fold IntOp.andi 1#1 fun k : Fin 1 × Fin 2048 × Fin 2048 =>
        BitVec.ofBool (decide ((FloatOps.absf (F := Ideal) (φ := .f32) (x (ix3 k.1 k.2.1 k.2.2)) : EReal) < Ideal.ofBits .f32 0x7F800000#32)))
      (Finset.univ.fold IntOp.andi 1#1 fun k : Fin 8 × Fin 2048 =>
        BitVec.ofBool (decide ((FloatOps.absf (F := Ideal) (φ := .f32) (w (ix2 k.1 k.2)) : EReal) < Ideal.ofBits .f32 0x7F800000#32))) := by
    pointwise [fn]
  rw [e] at h0
  obtain ⟨hx, hw⟩ := both _ _ h0
  exact ⟨fun n k => all_real (fun k : Fin 1 × Fin 2048 × Fin 2048 => x (ix3 k.1 k.2.1 k.2.2)) hx (0, n, k),
    fun a k => all_real (fun k : Fin 8 × Fin 2048 => w (ix2 k.1 k.2)) hw (a, k)⟩

end Cert.Pre_finite
end
-- ==== Proof.lean ====
module

public import proofs.«01_k».proof.Defs
public import proofs.«01_k».proof.Proof.Gen.Kernel.Frame
public import proofs.«01_k».proof.Proof.Gen.KernelIdeal.Frame
public import proofs.«01_k».proof.Proof.KernelRun
public import proofs.«01_k».proof.Proof.RefRun
public import proofs.«01_k».proof.Proof.Finite
public import Idealize.ShloMosaic.Lib.Quiescent

@[expose] public section

noncomputable section

namespace Cert.Proof

open Idealize.ShloMosaic Idealize.SL.Sem Idealize.ShloMosaic.TcCoe Cert.Router

/-- The reference runs, leaves its arguments as launched, and declares no semaphore. -/
theorem reference_frame : Cert.quiescent_ReferenceIdeal (hReferenceIdeal := Cert.ReferenceIdeal.Gen.facts) := fun m ρ _ =>
  (θ_run _ _ _).mono (fun _ h => ⟨fun c => (h c).2.2.2, sem_eq_zero_of_no_sems rfl _⟩)
    (Cert.ReferenceIdeal.Value.run m ρ)

/-- Finite arguments give real logits. -/
theorem logits_of_pre (m : (ℓ : Loc Cert.KernelIdeal.nD Cert.KernelIdeal.τ Cert.KernelIdeal.sig) → Buf (Elt Ideal) ℓ)
    (h : Cert.Pre_KernelIdeal_finite (hPre_finite := Cert.Pre_finite.facts) m) (c : Dev Cert.KernelIdeal.nD) (n : Nat) (e : Fin 8) :
    ∃ r : ℝ, Cert.KernelIdeal.KernelRun.lgs m c n e = r := by
  obtain ⟨hx, hw⟩ := Cert.Pre_finite.real _ _ (h c)
  exact logits_real hx hw n e

/-- On finite arguments the kernel's three results are the reference's. -/
theorem results_equal : Cert.algebraic_KernelIdeal_ReferenceIdeal_pre_finite (hKernelIdeal := Cert.KernelIdeal.Gen.facts)
    (hReferenceIdeal := Cert.ReferenceIdeal.Gen.facts) (hPre_finite := Cert.Pre_finite.facts) := fun m g m' g' hpre harg => by
  have hR := logits_of_pre m hpre
  have hl : ∀ c, Cert.ReferenceIdeal.RefRun.lg m' c = Cert.KernelIdeal.KernelRun.lgs m c := fun c => by
    unfold Cert.ReferenceIdeal.RefRun.lg
    rw [(harg c).1, (harg c).2]
    rfl
  refine ⟨fun c => Cert.KernelIdeal.KernelRun.used (Cert.KernelIdeal.KernelRun.lgs m c),
    fun c => Cert.KernelIdeal.Expand.cbA (Cert.KernelIdeal.KernelRun.lgs m c),
    fun c => Cert.KernelIdeal.KernelRun.marks (Cert.KernelIdeal.KernelRun.lgs m c),
    Cert.KernelIdeal.KernelRun.values m g (fun c n e h => by
      obtain ⟨r, hr⟩ := hR c n e
      rw [h] at hr
      exact EReal.bot_ne_coe r hr), ?_⟩
  refine (θ_run _ _ _).mono (fun _ h c => ?_) (Cert.ReferenceIdeal.RefRun.values m' g' fun c n e => by rw [hl c]; exact hR c n e)
  have hc := h c
  rw [hl c] at hc
  exact hc

/-- Everything claimed. -/
theorem claim : Cert.Claim :=
  ⟨Cert.Kernel.Gen.facts, Cert.KernelIdeal.Gen.facts, Cert.ReferenceIdeal.Gen.facts, Cert.Pre_finite.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, results_equal⟩

end Cert.Proof

end
